-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_KernelRows (m : (ℓ : Loc Cert.KernelRows.nD Cert.KernelRows.τ Cert.KernelRows.sig) → Buf (Elt Bits) ℓ) : Prop :=
  True

def Pre_KernelRowsIdeal (m : (ℓ : Loc Cert.KernelRowsIdeal.nD Cert.KernelRowsIdeal.τ Cert.KernelRowsIdeal.sig) → Buf (Elt Ideal) ℓ) : Prop :=
  True

def Pre_ReferenceRowsIdeal (m : (ℓ : Loc Cert.ReferenceRowsIdeal.nD Cert.ReferenceRowsIdeal.τ Cert.ReferenceRowsIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_KernelRows [hKernelRows : Cert.KernelRows.Facts] : Prop :=
  ∀ (m : (ℓ : Loc Cert.KernelRows.nD Cert.KernelRows.τ Cert.KernelRows.sig) → Buf (Elt Bits) ℓ) (g : Dev Cert.KernelRows.nD → PrngReg), Pre_KernelRows m →
    θ_run (Cert.KernelRows.defs (F := Bits)) (onTc (τ := Cert.KernelRows.τ) (Cert.KernelRows.main (F := Bits))) ⟨m, fun _ => 0, g⟩ (fun r => (∀ c : Dev Cert.KernelRows.nD,
      r.2.mem ((c.tc : Thread Cert.KernelRows.nD Cert.KernelRows.τ).loc Cert.KernelRows.main_arg0) = m ((c.tc : Thread Cert.KernelRows.nD Cert.KernelRows.τ).loc Cert.KernelRows.main_arg0)
      ∧ r.2.mem ((c.tc : Thread Cert.KernelRows.nD Cert.KernelRows.τ).loc Cert.KernelRows.main_arg1) = m ((c.tc : Thread Cert.KernelRows.nD Cert.KernelRows.τ).loc Cert.KernelRows.main_arg1)
      ∧ r.2.mem ((c.tc : Thread Cert.KernelRows.nD Cert.KernelRows.τ).loc Cert.KernelRows.main_arg2) = m ((c.tc : Thread Cert.KernelRows.nD Cert.KernelRows.τ).loc Cert.KernelRows.main_arg2))
      ∧ r.2.sem = fun _ => 0)

def quiescent_KernelRowsIdeal [hKernelRowsIdeal : Cert.KernelRowsIdeal.Facts] : Prop :=
  ∀ (m : (ℓ : Loc Cert.KernelRowsIdeal.nD Cert.KernelRowsIdeal.τ Cert.KernelRowsIdeal.sig) → Buf (Elt Ideal) ℓ) (g : Dev Cert.KernelRowsIdeal.nD → PrngReg), Pre_KernelRowsIdeal m →
    θ_run (Cert.KernelRowsIdeal.defs (F := Ideal)) (onTc (τ := Cert.KernelRowsIdeal.τ) (Cert.KernelRowsIdeal.main (F := Ideal))) ⟨m, fun _ => 0, g⟩ (fun r => (∀ c : Dev Cert.KernelRowsIdeal.nD,
      r.2.mem ((c.tc : Thread Cert.KernelRowsIdeal.nD Cert.KernelRowsIdeal.τ).loc Cert.KernelRowsIdeal.main_arg0) = m ((c.tc : Thread Cert.KernelRowsIdeal.nD Cert.KernelRowsIdeal.τ).loc Cert.KernelRowsIdeal.main_arg0)
      ∧ r.2.mem ((c.tc : Thread Cert.KernelRowsIdeal.nD Cert.KernelRowsIdeal.τ).loc Cert.KernelRowsIdeal.main_arg1) = m ((c.tc : Thread Cert.KernelRowsIdeal.nD Cert.KernelRowsIdeal.τ).loc Cert.KernelRowsIdeal.main_arg1)
      ∧ r.2.mem ((c.tc : Thread Cert.KernelRowsIdeal.nD Cert.KernelRowsIdeal.τ).loc Cert.KernelRowsIdeal.main_arg2) = m ((c.tc : Thread Cert.KernelRowsIdeal.nD Cert.KernelRowsIdeal.τ).loc Cert.KernelRowsIdeal.main_arg2))
      ∧ r.2.sem = fun _ => 0)

def quiescent_ReferenceRowsIdeal [hReferenceRowsIdeal : Cert.ReferenceRowsIdeal.Facts] : Prop :=
  ∀ (m : (ℓ : Loc Cert.ReferenceRowsIdeal.nD Cert.ReferenceRowsIdeal.τ Cert.ReferenceRowsIdeal.sig) → Buf (Elt Ideal) ℓ) (g : Dev Cert.ReferenceRowsIdeal.nD → PrngReg), Pre_ReferenceRowsIdeal m →
    θ_run (Cert.ReferenceRowsIdeal.defs (F := Ideal)) (onTc (τ := Cert.ReferenceRowsIdeal.τ) (Cert.ReferenceRowsIdeal.main (F := Ideal))) ⟨m, fun _ => 0, g⟩ (fun r => (∀ c : Dev Cert.ReferenceRowsIdeal.nD,
      r.2.mem ((c.tc : Thread Cert.ReferenceRowsIdeal.nD Cert.ReferenceRowsIdeal.τ).loc Cert.ReferenceRowsIdeal.main_arg0) = m ((c.tc : Thread Cert.ReferenceRowsIdeal.nD Cert.ReferenceRowsIdeal.τ).loc Cert.ReferenceRowsIdeal.main_arg0)
      ∧ r.2.mem ((c.tc : Thread Cert.ReferenceRowsIdeal.nD Cert.ReferenceRowsIdeal.τ).loc Cert.ReferenceRowsIdeal.main_arg1) = m ((c.tc : Thread Cert.ReferenceRowsIdeal.nD Cert.ReferenceRowsIdeal.τ).loc Cert.ReferenceRowsIdeal.main_arg1)
      ∧ r.2.mem ((c.tc : Thread Cert.ReferenceRowsIdeal.nD Cert.ReferenceRowsIdeal.τ).loc Cert.ReferenceRowsIdeal.main_arg2) = m ((c.tc : Thread Cert.ReferenceRowsIdeal.nD Cert.ReferenceRowsIdeal.τ).loc Cert.ReferenceRowsIdeal.main_arg2))
      ∧ r.2.sem = fun _ => 0)

def preserves_Kernel_KernelIdeal : Prop :=
  IdealRules.named_const.Statement Cert.KernelIdeal.κ "log2_e" .f32 0x3FB8AA3B#32 (((Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def preserves_KernelRows_KernelRowsIdeal : Prop :=
  IdealRules.named_const.Statement Cert.KernelRowsIdeal.κ "log2_e" .f32 0x3FB8AA3B#32 (((Real.log 2)⁻¹ : ℝ) : EReal)

def disproves_algebraic_KernelRowsIdeal_ReferenceRowsIdeal [hKernelRowsIdeal : Cert.KernelRowsIdeal.Facts] [hReferenceRowsIdeal : Cert.ReferenceRowsIdeal.Facts] : Prop :=
  ∀ (m : (ℓ : Loc Cert.KernelRowsIdeal.nD Cert.KernelRowsIdeal.τ Cert.KernelRowsIdeal.sig) → Buf (Elt Ideal) ℓ) (g : Dev Cert.KernelRowsIdeal.nD → PrngReg)
    (m' : (ℓ : Loc Cert.ReferenceRowsIdeal.nD Cert.ReferenceRowsIdeal.τ Cert.ReferenceRowsIdeal.sig) → Buf (Elt Ideal) ℓ) (g' : Dev Cert.ReferenceRowsIdeal.nD → PrngReg),
    (∀ c : Dev Cert.KernelRowsIdeal.nD,
      m ((c.tc : Thread Cert.KernelRowsIdeal.nD Cert.KernelRowsIdeal.τ).loc Cert.KernelRowsIdeal.main_arg0) = Cert.Cx_KernelRowsIdeal.arg0 (F := Ideal)
      ∧ m ((c.tc : Thread Cert.KernelRowsIdeal.nD Cert.KernelRowsIdeal.τ).loc Cert.KernelRowsIdeal.main_arg1) = Cert.Cx_KernelRowsIdeal.arg1 (F := Ideal)
      ∧ m ((c.tc : Thread Cert.KernelRowsIdeal.nD Cert.KernelRowsIdeal.τ).loc Cert.KernelRowsIdeal.main_arg2) = Cert.Cx_KernelRowsIdeal.arg2 (F := Ideal)) →
    (∀ c : Dev Cert.KernelRowsIdeal.nD,
      m' ((c.tc : Thread Cert.ReferenceRowsIdeal.nD Cert.ReferenceRowsIdeal.τ).loc Cert.ReferenceRowsIdeal.main_arg0) = m ((c.tc : Thread Cert.KernelRowsIdeal.nD Cert.KernelRowsIdeal.τ).loc Cert.KernelRowsIdeal.main_arg0)
      ∧ m' ((c.tc : Thread Cert.ReferenceRowsIdeal.nD Cert.ReferenceRowsIdeal.τ).loc Cert.ReferenceRowsIdeal.main_arg1) = m ((c.tc : Thread Cert.KernelRowsIdeal.nD Cert.KernelRowsIdeal.τ).loc Cert.KernelRowsIdeal.main_arg1)
      ∧ m' ((c.tc : Thread Cert.ReferenceRowsIdeal.nD Cert.ReferenceRowsIdeal.τ).loc Cert.ReferenceRowsIdeal.main_arg2) = m ((c.tc : Thread Cert.KernelRowsIdeal.nD Cert.KernelRowsIdeal.τ).loc Cert.KernelRowsIdeal.main_arg2)) →
    Pre_KernelRowsIdeal m
    ∧ ∃ (v0 : (c : Dev Cert.KernelRowsIdeal.nD) → Buf (Elt Ideal) ((c.tc : Thread Cert.KernelRowsIdeal.nD Cert.KernelRowsIdeal.τ).loc Cert.KernelRowsIdeal.main_v15)),
      θ_run (Cert.KernelRowsIdeal.defs (F := Ideal)) (onTc (τ := Cert.KernelRowsIdeal.τ) (Cert.KernelRowsIdeal.main (F := Ideal))) ⟨m, fun _ => 0, g⟩ (fun r => ¬ (∀ c : Dev Cert.KernelRowsIdeal.nD,
          r.2.mem ((c.tc : Thread Cert.KernelRowsIdeal.nD Cert.KernelRowsIdeal.τ).loc Cert.KernelRowsIdeal.main_v15) = v0 c))
      ∧ θ_run (Cert.ReferenceRowsIdeal.defs (F := Ideal)) (onTc (τ := Cert.ReferenceRowsIdeal.τ) (Cert.ReferenceRowsIdeal.main (F := Ideal))) ⟨m', fun _ => 0, g'⟩ (fun r => ∀ c : Dev Cert.ReferenceRowsIdeal.nD,
          r.2.mem ((c.tc : Thread Cert.ReferenceRowsIdeal.nD Cert.ReferenceRowsIdeal.τ).loc Cert.ReferenceRowsIdeal.main_v61) = v0 c)

def Claim : Prop :=
  ∃ (hKernel : Cert.Kernel.Facts) (hKernelIdeal : Cert.KernelIdeal.Facts) (hReferenceIdeal : Cert.ReferenceIdeal.Facts) (hKernelRows : Cert.KernelRows.Facts) (hKernelRowsIdeal : Cert.KernelRowsIdeal.Facts) (hReferenceRowsIdeal : Cert.ReferenceRowsIdeal.Facts),
    quiescent_Kernel (hKernel := hKernel)
    ∧ quiescent_KernelIdeal (hKernelIdeal := hKernelIdeal)
    ∧ quiescent_ReferenceIdeal (hReferenceIdeal := hReferenceIdeal)
    ∧ quiescent_KernelRows (hKernelRows := hKernelRows)
    ∧ quiescent_KernelRowsIdeal (hKernelRowsIdeal := hKernelRowsIdeal)
    ∧ quiescent_ReferenceRowsIdeal (hReferenceRowsIdeal := hReferenceRowsIdeal)
    ∧ preserves_Kernel_KernelIdeal
    ∧ algebraic_KernelIdeal_ReferenceIdeal (hKernelIdeal := hKernelIdeal) (hReferenceIdeal := hReferenceIdeal)
    ∧ preserves_KernelRows_KernelRowsIdeal
    ∧ disproves_algebraic_KernelRowsIdeal_ReferenceRowsIdeal (hKernelRowsIdeal := hKernelRowsIdeal) (hReferenceRowsIdeal := hReferenceRowsIdeal)
-- ==== Cx_KernelRowsIdeal.lean ====
noncomputable def arg0_words : Fin 1 → BitVec 32 :=
  ![0x3F800000#32]
noncomputable def arg0 {F : FTy → Type} [FloatOps F] : FVec F (⟨1, ![1]⟩ : Shape) .f32 := fun i => FloatOps.ofBits .f32 (arg0_words (i 0))

noncomputable def arg1_words : Fin 4 → BitVec 32 :=
  ![0x3EA00000#32, 0x00000000#32, 0xBC800000#32, 0xBD000000#32]
noncomputable def arg1 {F : FTy → Type} [FloatOps F] : FVec F (⟨1, ![4]⟩ : Shape) .f32 := fun i => FloatOps.ofBits .f32 (arg1_words (i 0))

noncomputable def arg2_words : Fin 4 → BitVec 32 :=
  ![0x3F800000#32, 0x00000000#32, 0x00000000#32, 0x00000000#32]
noncomputable def arg2 {F : FTy → Type} [FloatOps F] : FVec F (⟨1, ![4]⟩ : Shape) .f32 := fun i => FloatOps.ofBits .f32 (arg2_words (i 0))
-- ==== Kernel.lean ====
abbrev S1x2048x1024 : Shape := ⟨3, ![1, 2048, 1024]⟩
abbrev S1024x1024 : Shape := ⟨2, ![1024, 1024]⟩
abbrev S1024 : Shape := ⟨1, ![1024]⟩
abbrev S2048x1024 : Shape := ⟨2, ![2048, 1024]⟩
abbrev S2048 : Shape := ⟨1, ![2048]⟩
abbrev S2816x1024 : Shape := ⟨2, ![2816, 1024]⟩
abbrev S1024x2816 : Shape := ⟨2, ![1024, 2816]⟩
abbrev S_ : Shape := ⟨0, ![]⟩
abbrev S3072x1024 : Shape := ⟨2, ![3072, 1024]⟩
abbrev S3072 : Shape := ⟨1, ![3072]⟩
abbrev S1x3072 : Shape := ⟨2, ![1, 3072]⟩
abbrev S2048x3072 : Shape := ⟨2, ![2048, 3072]⟩
abbrev S256x1024 : Shape := ⟨2, ![256, 1024]⟩
abbrev S768x1024 : Shape := ⟨2, ![768, 1024]⟩
abbrev S1x768 : Shape := ⟨2, ![1, 768]⟩
abbrev S256x768 : Shape := ⟨2, ![256, 768]⟩
abbrev S1024x128 : Shape := ⟨2, ![1024, 128]⟩
abbrev S2048x128 : Shape := ⟨2, ![2048, 128]⟩
abbrev S1024x64 : Shape := ⟨2, ![1024, 64]⟩
abbrev S2048x64 : Shape := ⟨2, ![2048, 64]⟩
abbrev S1024x2048 : Shape := ⟨2, ![1024, 2048]⟩
abbrev S1024x1 : Shape := ⟨2, ![1024, 1]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S512x2816 : Shape := ⟨2, ![512, 2816]⟩

abbrev nBuf : Space → Nat
  | .hbm => 42
  | .vmem => 32
  | .smem => 0
  | _ => 0

abbrev bufTy : (tb : Table) → Fin (tcTables nBuf tb) → BufTy
  | .hbm, ⟨0, _⟩ => ⟨S1x2048x1024, .f32⟩
  | .hbm, ⟨1, _⟩ => ⟨S1024x1024, .f32⟩
  | .hbm, ⟨2, _⟩ => ⟨S1024, .f32⟩
  | .hbm, ⟨3, _⟩ => ⟨S2048x1024, .f32⟩
  | .hbm, ⟨4, _⟩ => ⟨S2048, .f32⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S2816x1024, .f32⟩
  | .hbm, ⟨9, _⟩ => ⟨S2816x1024, .f32⟩
  | .hbm, ⟨10, _⟩ => ⟨S1024x2816, .f32⟩
  | .hbm, ⟨11, _⟩ => ⟨S1024, .f32⟩
  | .hbm, ⟨12, _⟩ => ⟨S1024, .f32⟩
  | .hbm, ⟨13, _⟩ => ⟨S2048x1024, .f32⟩
  | .hbm, ⟨14, _⟩ => ⟨S2048x1024, .bf16⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S1024x1024, .f32⟩
  | .hbm, ⟨22, _⟩ => ⟨S1024x1024, .f32⟩
  | .hbm, ⟨23, _⟩ => ⟨S3072x1024, .f32⟩
  | .hbm, ⟨24, _⟩ => ⟨S3072x1024, .bf16⟩
  | .hbm, ⟨25, _⟩ => ⟨S1024, .f32⟩
  | .hbm, ⟨26, _⟩ => ⟨S1024, .f32⟩
  | .hbm, ⟨27, _⟩ => ⟨S3072, .f32⟩
  | .hbm, ⟨28, _⟩ => ⟨S1x3072, .f32⟩
  | .hbm, ⟨29, _⟩ => ⟨S2048x3072, .bf16⟩
  | .hbm, ⟨30, _⟩ => ⟨S2048x1024, .f32⟩
  | .hbm, ⟨31, _⟩ => ⟨S1024x1024, .bf16⟩
  | .hbm, ⟨32, _⟩ => ⟨S1x1024, .f32⟩
  | .hbm, ⟨33, _⟩ => ⟨S1x1024, .f32⟩
  | .hbm, ⟨34, _⟩ => ⟨S2816x1024, .bf16⟩
  | .hbm, ⟨35, _⟩ => ⟨S2816x1024, .bf16⟩
  | .hbm, ⟨36, _⟩ => ⟨S1024x2816, .bf16⟩
  | .hbm, ⟨37, _⟩ => ⟨S2048x1024, .f32⟩
  | .hbm, ⟨38, _⟩ => ⟨S1x1024, .f32⟩
  | .hbm, ⟨39, _⟩ => ⟨S1x1024, .f32⟩
  | .hbm, ⟨40, _⟩ => ⟨S2048x1024, .f32⟩
  | .hbm, ⟨41, _⟩ => ⟨S1x2048x1024, .f32⟩
  | .local _ .vmem, ⟨0, _⟩ => ⟨S256x1024, .bf16⟩
  | .local _ .vmem, ⟨1, _⟩ => ⟨S256x1024, .bf16⟩
  | .local _ .vmem, ⟨2, _⟩ => ⟨S768x1024, .bf16⟩
  | .local _ .vmem, ⟨3, _⟩ => ⟨S768x1024, .bf16⟩
  | .local _ .vmem, ⟨4, _⟩ => ⟨S1x768, .f32⟩
  | .local _ .vmem, ⟨5, _⟩ => ⟨S1x768, .f32⟩
  | .local _ .vmem, ⟨6, _⟩ => ⟨S256x768, .bf16⟩
  | .local _ .vmem, ⟨7, _⟩ => ⟨S256x768, .bf16⟩
  | .local _ .vmem, ⟨8, _⟩ => ⟨S1024x128, .bf16⟩
  | .local _ .vmem, ⟨9, _⟩ => ⟨S1024x128, .bf16⟩
  | .local _ .vmem, ⟨10, _⟩ => ⟨S2048x128, .bf16⟩
  | .local _ .vmem, ⟨11, _⟩ => ⟨S2048x128, .bf16⟩
  | .local _ .vmem, ⟨12, _⟩ => ⟨S2048x128, .bf16⟩
  | .local _ .vmem, ⟨13, _⟩ => ⟨S2048x128, .bf16⟩
  | .local _ .vmem, ⟨14, _⟩ => ⟨S1024x128, .f32⟩
  | .local _ .vmem, ⟨15, _⟩ => ⟨S1024x128, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S1024x1024, .bf16⟩
  | .local _ .vmem, ⟨21, _⟩ => ⟨S1x1024, .f32⟩
  | .local _ .vmem, ⟨22, _⟩ => ⟨S1x1024, .f32⟩
  | .local _ .vmem, ⟨23, _⟩ => ⟨S2816x1024, .bf16⟩
  | .local _ .vmem, ⟨24, _⟩ => ⟨S2816x1024, .bf16⟩
  | .local _ .vmem, ⟨25, _⟩ => ⟨S1024x2816, .bf16⟩
  | .local _ .vmem, ⟨26, _⟩ => ⟨S512x1024, .f32⟩
  | .local _ .vmem, ⟨27, _⟩ => ⟨S512x1024, .f32⟩
  | .local _ .vmem, ⟨28, _⟩ => ⟨S2048x1024, .f32⟩
  | .local _ .vmem, ⟨29, _⟩ => ⟨S1x1024, .f32⟩
  | .local _ .vmem, ⟨30, _⟩ => ⟨S1x1024, .f32⟩
  | .local _ .vmem, ⟨31, _⟩ => ⟨S2048x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_cst : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_cst_1 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc2_stg7_0 : Ref sig .tc := ⟨.vmem, 25, rfl⟩
abbrev cc2_stg8_0 : Ref sig .tc := ⟨.vmem, 26, rfl⟩
abbrev cc2_stg8_1 : Ref sig .tc := ⟨.vmem, 27, rfl⟩
abbrev cc3_stg0_0 : Ref sig .tc := ⟨.vmem, 28, rfl⟩
abbrev cc3_stg1_0 : Ref sig .tc := ⟨.vmem, 29, rfl⟩
abbrev cc3_stg2_0 : Ref sig .tc := ⟨.vmem, 30, rfl⟩
abbrev cc3_stg3_0 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem6_0 : DmaSem sig := 24
abbrev cc2_sem7_0 : DmaSem sig := 25
abbrev cc2_sem8_0 : DmaSem sig := 26
abbrev cc2_sem8_1 : DmaSem sig := 27
abbrev cc3_sem0_0 : DmaSem sig := 28
abbrev cc3_sem1_0 : DmaSem sig := 29
abbrev cc3_sem2_0 : DmaSem sig := 30
abbrev cc3_sem3_0 : DmaSem sig := 31

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![8, 2], ![false, false]⟩

@[reducible] def k1_t1_loop : Scf.Loop 32 :=
  let c0_i32 : BitVec 32 := 0#32
  let c2_i32 : BitVec 32 := 2#32
  let v13 : BitVec 32 := Scalar.addi c0_i32 c2_i32
  let c1_i32 : BitVec 32 := 1#32
  ⟨c0_i32, v13, c1_i32⟩
@[reducible] def k1_t2_loop : Scf.Loop 32 :=
  let c0_i32_23 : BitVec 32 := 0#32
  let c2_i32_24 : BitVec 32 := 2#32
  let v45 : BitVec 32 := Scalar.addi c0_i32_23 c2_i32_24
  let c1_i32_25 : BitVec 32 := 1#32
  ⟨c0_i32_23, v45, c1_i32_25⟩
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc1_transform_2 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S1024x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1024x1024 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S2816x1024 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S2816x1024 .bf16 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1024x2816 .bf16 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S512x1024 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := .none

abbrev stage3_0 : Fin 1 → Memref sig .tc .vmem S2048x1024 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))

abbrev stage3_1 : Fin 1 → Memref sig .tc .vmem S1x1024 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))

abbrev stage3_2 : Fin 1 → Memref sig .tc .vmem S1x1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))

abbrev stage3_3 : Fin 1 → Memref sig .tc .vmem S2048x1024 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
-- ==== KernelIdeal.lean ====
variable {F : FTy → Type} [FloatOps F] [Named F]
def κ : String → Option EReal := fun
  | "log2_e" => some (((Real.log 2)⁻¹ : ℝ) : EReal)
  | _ => none
-- ==== ReferenceIdeal.lean ====
abbrev S1x2048x1024 : Shape := ⟨3, ![1, 2048, 1024]⟩
abbrev S1024x1024 : Shape := ⟨2, ![1024, 1024]⟩
abbrev S1024 : Shape := ⟨1, ![1024]⟩
abbrev S2048x1024 : Shape := ⟨2, ![2048, 1024]⟩
abbrev S2048 : Shape := ⟨1, ![2048]⟩
abbrev S2816x1024 : Shape := ⟨2, ![2816, 1024]⟩
abbrev S1024x2816 : Shape := ⟨2, ![1024, 2816]⟩
abbrev S1x1x1024 : Shape := ⟨3, ![1, 1, 1024]⟩
abbrev S1x2048x16x64 : Shape := ⟨4, ![1, 2048, 16, 64]⟩
abbrev S1x16x2048x64 : Shape := ⟨4, ![1, 16, 2048, 64]⟩
abbrev S1024x2048 : Shape := ⟨2, ![1024, 2048]⟩
abbrev S1x2048x2048 : Shape := ⟨3, ![1, 2048, 2048]⟩
abbrev S1x1x2048 : Shape := ⟨3, ![1, 1, 2048]⟩
abbrev S1x2048x2x16x64 : Shape := ⟨5, ![1, 2048, 2, 16, 64]⟩
abbrev S1x2048x1x16x64 : Shape := ⟨5, ![1, 2048, 1, 16, 64]⟩
abbrev S1x16x2048x2048 : Shape := ⟨4, ![1, 16, 2048, 2048]⟩
abbrev S_ : Shape := ⟨0, ![]⟩
abbrev S1x16x2048 : Shape := ⟨3, ![1, 16, 2048]⟩
abbrev S1x16x2048x1 : Shape := ⟨4, ![1, 16, 2048, 1]⟩
abbrev S1x16x2048x1024 : Shape := ⟨4, ![1, 16, 2048, 1024]⟩
abbrev S1x2048 : Shape := ⟨2, ![1, 2048]⟩
abbrev S1x2048x1 : Shape := ⟨3, ![1, 2048, 1]⟩
abbrev S1x2048x2816 : Shape := ⟨3, ![1, 2048, 2816]⟩
abbrev S1x1024 : Shape := ⟨2, ![1, 1024]⟩

abbrev nBuf : Space → Nat
  | .hbm => 167
  | .vmem => 0
  | .smem => 0
  | _ => 0

abbrev hbmTy0_0 (i : Nat) : BufTy := match i % 128 with
  | 0 => ⟨S1x2048x1024, .f32⟩
  | 1 => ⟨S1024x1024, .f32⟩
  | 2 => ⟨S1024, .f32⟩
  | 3 => ⟨S2048x1024, .f32⟩
  | 4 => ⟨S2048, .f32⟩
  | 5 => ⟨S1024x1024, .f32⟩
  | 6 => ⟨S1024, .f32⟩
  | 7 => ⟨S1024, .f32⟩
  | 8 => ⟨S2816x1024, .f32⟩
  | 9 => ⟨S2816x1024, .f32⟩
  | 10 => ⟨S1024x2816, .f32⟩
  | 11 => ⟨S1024, .f32⟩
  | 12 => ⟨S1024, .f32⟩
  | 13 => ⟨S1024x1024, .f32⟩
  | 14 => ⟨S1x2048x1024, .f32⟩
  | 15 => ⟨S1x1x1024, .f32⟩
  | 16 => ⟨S1x2048x1024, .f32⟩
  | 17 => ⟨S1x2048x1024, .f32⟩
  | 18 => ⟨S1x2048x16x64, .f32⟩
  | 19 => ⟨S1x16x2048x64, .f32⟩
  | 20 => ⟨S1024x2048, .f32⟩
  | 21 => ⟨S1x2048x2048, .f32⟩
  | 22 => ⟨S1x1x2048, .f32⟩
  | 23 => ⟨S1x2048x2048, .f32⟩
  | 24 => ⟨S1x2048x2048, .f32⟩
  | 25 => ⟨S1x2048x2x16x64, .f32⟩
  | 26 => ⟨S1x2048x1x16x64, .f32⟩
  | 27 => ⟨S1x2048x16x64, .f32⟩
  | 28 => ⟨S1x16x2048x64, .f32⟩
  | 29 => ⟨S1x2048x1x16x64, .f32⟩
  | 30 => ⟨S1x2048x16x64, .f32⟩
  | 31 => ⟨S1x16x2048x64, .f32⟩
  | 32 => ⟨S1x16x2048x2048, .f32⟩
  | 33 => ⟨S_, .f32⟩
  | 34 => ⟨S1x16x2048x2048, .f32⟩
  | 35 => ⟨S1x16x2048x2048, .f32⟩
  | 36 => ⟨S_, .f32⟩
  | 37 => ⟨S1x16x2048, .f32⟩
  | 38 => ⟨S_, .f32⟩
  | 39 => ⟨S1x16x2048, .f32⟩
  | 40 => ⟨S1x16x2048, .f32⟩
  | 41 => ⟨S1x16x2048x1, .f32⟩
  | 42 => ⟨S1x16x2048x2048, .f32⟩
  | 43 => ⟨S1x16x2048x2048, .f32⟩
  | 44 => ⟨S1x16x2048x2048, .f32⟩
  | 45 => ⟨S_, .f32⟩
  | 46 => ⟨S1x16x2048, .f32⟩
  | 47 => ⟨S1x16x2048x1, .f32⟩
  | 48 => ⟨S1x16x2048x2048, .f32⟩
  | 49 => ⟨S1x16x2048x2048, .f32⟩
  | 50 => ⟨S1x16x2048x1024, .f32⟩
  | 51 => ⟨S1x16x2048x1024, .i32⟩
  | 52 => ⟨S1x16x2048x1, .f32⟩
  | 53 => ⟨S_, .f32⟩
  | 54 => ⟨S1x16x2048x1, .f32⟩
  | 55 => ⟨S_, .f32⟩
  | 56 => ⟨S1x16x2048x1, .f32⟩
  | 57 => ⟨S1x16x2048x1, .i1⟩
  | 58 => ⟨S_, .f32⟩
  | 59 => ⟨S_, .f32⟩
  | 60 => ⟨S1x16x2048x1, .f32⟩
  | 61 => ⟨S1x16x2048x1, .f32⟩
  | 62 => ⟨S_, .f32⟩
  | 63 => ⟨S1x16x2048x1, .f32⟩
  | 64 => ⟨S1x16x2048x1, .i1⟩
  | 65 => ⟨S_, .f32⟩
  | 66 => ⟨S_, .f32⟩
  | 67 => ⟨S1x16x2048x1, .f32⟩
  | 68 => ⟨S1x16x2048x1, .f32⟩
  | 69 => ⟨S_, .f32⟩
  | 70 => ⟨S1x16x2048x1, .f32⟩
  | 71 => ⟨S1x16x2048x1, .i1⟩
  | 72 => ⟨S_, .f32⟩
  | 73 => ⟨S_, .f32⟩
  | 74 => ⟨S1x16x2048x1, .f32⟩
  | 75 => ⟨S1x16x2048x1, .f32⟩
  | 76 => ⟨S1x16x2048x2048, .f32⟩
  | 77 => ⟨S1x16x2048x2048, .i1⟩
  | 78 => ⟨S_, .f32⟩
  | 79 => ⟨S_, .f32⟩
  | 80 => ⟨S1x16x2048x2048, .f32⟩
  | 81 => ⟨S1x16x2048x2048, .f32⟩
  | 82 => ⟨S_, .f32⟩
  | 83 => ⟨S1x16x2048, .f32⟩
  | 84 => ⟨S_, .f32⟩
  | 85 => ⟨S1x16x2048, .f32⟩
  | 86 => ⟨S1x16x2048, .f32⟩
  | 87 => ⟨S1x16x2048x1, .f32⟩
  | 88 => ⟨S1x16x2048x2048, .f32⟩
  | 89 => ⟨S1x16x2048x2048, .f32⟩
  | 90 => ⟨S1x16x2048x2048, .f32⟩
  | 91 => ⟨S_, .f32⟩
  | 92 => ⟨S1x16x2048, .f32⟩
  | 93 => ⟨S1x16x2048x1, .f32⟩
  | 94 => ⟨S1x16x2048x2048, .f32⟩
  | 95 => ⟨S1x16x2048x2048, .f32⟩
  | 96 => ⟨S1x16x2048x64, .f32⟩
  | 97 => ⟨S1x2048x16x64, .f32⟩
  | 98 => ⟨S1x2048x1024, .f32⟩
  | 99 => ⟨S1024x1024, .f32⟩
  | 100 => ⟨S1x2048x1024, .f32⟩
  | 101 => ⟨S1x1x1024, .f32⟩
  | 102 => ⟨S1x2048x1024, .f32⟩
  | 103 => ⟨S1x2048x1024, .f32⟩
  | 104 => ⟨S1x2048x1024, .f32⟩
  | 105 => ⟨S1x2048x1024, .f32⟩
  | 106 => ⟨S_, .f32⟩
  | 107 => ⟨S1x2048, .f32⟩
  | 108 => ⟨S1x2048x1, .f32⟩
  | 109 => ⟨S_, .f32⟩
  | 110 => ⟨S1x2048x1, .f32⟩
  | 111 => ⟨S1x2048x1, .f32⟩
  | 112 => ⟨S_, .f32⟩
  | 113 => ⟨S1x2048x1, .f32⟩
  | 114 => ⟨S1x2048x1, .f32⟩
  | 115 => ⟨S1x2048x1, .f32⟩
  | 116 => ⟨S1x2048x1024, .f32⟩
  | 117 => ⟨S1x2048x1024, .f32⟩
  | 118 => ⟨S1x1x1024, .f32⟩
  | 119 => ⟨S1x2048x1024, .f32⟩
  | 120 => ⟨S1x2048x1024, .f32⟩
  | 121 => ⟨S1024x2816, .f32⟩
  | 122 => ⟨S1x2048x2816, .f32⟩
  | 123 => ⟨S1024x2816, .f32⟩
  | 124 => ⟨S1x2048x2816, .f32⟩
  | 125 => ⟨S1x2048x2816, .f32⟩
  | 126 => ⟨S1x2048x2816, .f32⟩
  | 127 => ⟨S_, .f32⟩
  | _ => ⟨S1x2048x1024, .f32⟩

abbrev hbmTy0_1 (i : Nat) : BufTy := match i % 128 with
  | 0 => ⟨S1x2048x2816, .f32⟩
  | 1 => ⟨S1x2048x2816, .f32⟩
  | 2 => ⟨S_, .f32⟩
  | 3 => ⟨S1x2048x2816, .f32⟩
  | 4 => ⟨S1x2048x2816, .f32⟩
  | 5 => ⟨S1x2048x2816, .f32⟩
  | 6 => ⟨S1x2048x2816, .f32⟩
  | 7 => ⟨S2816x1024, .f32⟩
  | 8 => ⟨S1x2048x1024, .f32⟩
  | 9 => ⟨S1x2048x1024, .f32⟩
  | 10 => ⟨S_, .f32⟩
  | 11 => ⟨S1x1024, .f32⟩
  | 12 => ⟨S1x1x1024, .f32⟩
  | 13 => ⟨S_, .f32⟩
  | 14 => ⟨S1x1x1024, .f32⟩
  | 15 => ⟨S1x1x1024, .f32⟩
  | 16 => ⟨S1x2048x1024, .f32⟩
  | 17 => ⟨S1x2048x1024, .f32⟩
  | 18 => ⟨S1x2048x1024, .f32⟩
  | 19 => ⟨S_, .f32⟩
  | 20 => ⟨S1x1024, .f32⟩
  | 21 => ⟨S1x1x1024, .f32⟩
  | 22 => ⟨S_, .f32⟩
  | 23 => ⟨S1x1x1024, .f32⟩
  | 24 => ⟨S1x1x1024, .f32⟩
  | 25 => ⟨S1x2048x1024, .f32⟩
  | 26 => ⟨S1x2048x1024, .f32⟩
  | 27 => ⟨S_, .f32⟩
  | 28 => ⟨S1x1x1024, .f32⟩
  | 29 => ⟨S1x1x1024, .f32⟩
  | 30 => ⟨S1x1x1024, .f32⟩
  | 31 => ⟨S1x2048x1024, .f32⟩
  | 32 => ⟨S1x2048x1024, .f32⟩
  | 33 => ⟨S1x1x1024, .f32⟩
  | 34 => ⟨S1x2048x1024, .f32⟩
  | 35 => ⟨S1x2048x1024, .f32⟩
  | 36 => ⟨S1x1x1024, .f32⟩
  | 37 => ⟨S1x2048x1024, .f32⟩
  | 38 => ⟨S1x2048x1024, .f32⟩
  | _ => ⟨S1x2048x1024, .f32⟩

abbrev hbmTy (i : Nat) : BufTy := match i / 128 with
  | 0 => hbmTy0_0 i
  | 1 => hbmTy0_1 i
  | _ => ⟨S1x2048x1024, .f32⟩

abbrev bufTy : (tb : Table) → Fin (tcTables nBuf tb) → BufTy
  | .hbm, ⟨i, _⟩ => hbmTy i
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst : Ref sig .tc := ⟨.hbm, 33, rfl⟩
abbrev main_v20 : Ref sig .tc := ⟨.hbm, 34, rfl⟩
abbrev main_v21 : Ref sig .tc := ⟨.hbm, 35, rfl⟩
abbrev main_cst_0 : Ref sig .tc := ⟨.hbm, 36, rfl⟩
abbrev main_v22 : Ref sig .tc := ⟨.hbm, 37, rfl⟩
abbrev main_cst_1 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_2 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_values : Ref sig .tc := ⟨.hbm, 50, rfl⟩
abbrev main_indices : Ref sig .tc := ⟨.hbm, 51, rfl⟩
abbrev main_v33 : Ref sig .tc := ⟨.hbm, 52, rfl⟩
abbrev main_cst_3 : Ref sig .tc := ⟨.hbm, 53, rfl⟩
abbrev main_v34 : Ref sig .tc := ⟨.hbm, 54, rfl⟩
abbrev main_cst_4 : Ref sig .tc := ⟨.hbm, 55, rfl⟩
abbrev main_v35 : Ref sig .tc := ⟨.hbm, 56, rfl⟩
abbrev main_v36 : Ref sig .tc := ⟨.hbm, 57, rfl⟩
abbrev main_cst_5 : Ref sig .tc := ⟨.hbm, 58, rfl⟩
abbrev main_call0_v0 : Ref sig .tc := ⟨.hbm, 59, rfl⟩
abbrev main_call0_v1 : Ref sig .tc := ⟨.hbm, 60, rfl⟩
abbrev main_v37 : Ref sig .tc := ⟨.hbm, 61, rfl⟩
abbrev main_cst_6 : Ref sig .tc := ⟨.hbm, 62, rfl⟩
abbrev main_v38 : Ref sig .tc := ⟨.hbm, 63, rfl⟩
abbrev main_v39 : Ref sig .tc := ⟨.hbm, 64, rfl⟩
abbrev main_cst_7 : Ref sig .tc := ⟨.hbm, 65, rfl⟩
abbrev main_call1_v0 : Ref sig .tc := ⟨.hbm, 66, rfl⟩
abbrev main_call1_v1 : Ref sig .tc := ⟨.hbm, 67, rfl⟩
abbrev main_v40 : Ref sig .tc := ⟨.hbm, 68, rfl⟩
abbrev main_cst_8 : Ref sig .tc := ⟨.hbm, 69, rfl⟩
abbrev main_v41 : Ref sig .tc := ⟨.hbm, 70, rfl⟩
abbrev main_v42 : Ref sig .tc := ⟨.hbm, 71, rfl⟩
abbrev main_cst_9 : Ref sig .tc := ⟨.hbm, 72, rfl⟩
abbrev main_call2_v0 : Ref sig .tc := ⟨.hbm, 73, rfl⟩
abbrev main_call2_v1 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_cst_10 : Ref sig .tc := ⟨.hbm, 78, rfl⟩
abbrev main_call3_v0 : Ref sig .tc := ⟨.hbm, 79, rfl⟩
abbrev main_call3_v1 : Ref sig .tc := ⟨.hbm, 80, rfl⟩
abbrev main_v46 : Ref sig .tc := ⟨.hbm, 81, rfl⟩
abbrev main_cst_11 : Ref sig .tc := ⟨.hbm, 82, rfl⟩
abbrev main_v47 : Ref sig .tc := ⟨.hbm, 83, rfl⟩
abbrev main_cst_12 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_cst_13 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_cst_14 : Ref sig .tc := ⟨.hbm, 106, rfl⟩
abbrev main_v68 : Ref sig .tc := ⟨.hbm, 107, rfl⟩
abbrev main_v69 : Ref sig .tc := ⟨.hbm, 108, rfl⟩
abbrev main_cst_15 : Ref sig .tc := ⟨.hbm, 109, rfl⟩
abbrev main_v70 : Ref sig .tc := ⟨.hbm, 110, rfl⟩
abbrev main_v71 : Ref sig .tc := ⟨.hbm, 111, rfl⟩
abbrev main_cst_16 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_call4_v0 : Ref sig .tc := ⟨.hbm, 125, rfl⟩
abbrev main_call4_v1 : Ref sig .tc := ⟨.hbm, 126, rfl⟩
abbrev main_call4_cst : Ref sig .tc := ⟨.hbm, 127, rfl⟩
abbrev main_call4_v2 : Ref sig .tc := ⟨.hbm, 128, rfl⟩
abbrev main_call4_v3 : Ref sig .tc := ⟨.hbm, 129, rfl⟩
abbrev main_call4_cst_0 : Ref sig .tc := ⟨.hbm, 130, rfl⟩
abbrev main_call4_v4 : Ref sig .tc := ⟨.hbm, 131, rfl⟩
abbrev main_call4_v5 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_cst_17 : Ref sig .tc := ⟨.hbm, 138, rfl⟩
abbrev main_v89 : Ref sig .tc := ⟨.hbm, 139, rfl⟩
abbrev main_v90 : Ref sig .tc := ⟨.hbm, 140, rfl⟩
abbrev main_cst_18 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_cst_19 : Ref sig .tc := ⟨.hbm, 147, rfl⟩
abbrev main_v96 : Ref sig .tc := ⟨.hbm, 148, rfl⟩
abbrev main_v97 : Ref sig .tc := ⟨.hbm, 149, rfl⟩
abbrev main_cst_20 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_cst_21 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩

abbrev nD : Nat := 1
abbrev τ : Topo := Topo.v7x

variable {F : FTy → Type} [FloatOps F]
-- ==== KernelRows.lean ====
abbrev S1 : Shape := ⟨1, ![1]⟩
abbrev S4 : Shape := ⟨1, ![4]⟩
abbrev S_ : Shape := ⟨0, ![]⟩
abbrev S2048x1024 : Shape := ⟨2, ![2048, 1024]⟩
abbrev S4x1x1 : Shape := ⟨3, ![4, 1, 1]⟩
abbrev S4x512x1024 : Shape := ⟨3, ![4, 512, 1024]⟩
abbrev S2048x3072 : Shape := ⟨2, ![2048, 3072]⟩
abbrev S1024x128 : Shape := ⟨2, ![1024, 128]⟩
abbrev S2048x128 : Shape := ⟨2, ![2048, 128]⟩
abbrev S1024x64 : Shape := ⟨2, ![1024, 64]⟩
abbrev S2048x64 : Shape := ⟨2, ![2048, 64]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 22
  | .vmem => 8
  | .smem => 0
  | _ => 0

abbrev bufTy : (tb : Table) → Fin (tcTables nBuf tb) → BufTy
  | .hbm, ⟨0, _⟩ => ⟨S1, .f32⟩
  | .hbm, ⟨1, _⟩ => ⟨S4, .f32⟩
  | .hbm, ⟨2, _⟩ => ⟨S4, .f32⟩
  | .hbm, ⟨3, _⟩ => ⟨S_, .f32⟩
  | .hbm, ⟨4, _⟩ => ⟨S2048x1024, .f32⟩
  | .hbm, ⟨5, _⟩ => ⟨S4x1x1, .f32⟩
  | .hbm, ⟨6, _⟩ => ⟨S4x512x1024, .f32⟩
  | .hbm, ⟨7, _⟩ => ⟨S2048x1024, .f32⟩
  | .hbm, ⟨8, _⟩ => ⟨S4x1x1, .f32⟩
  | .hbm, ⟨9, _⟩ => ⟨S4x512x1024, .f32⟩
  | .hbm, ⟨10, _⟩ => ⟨S2048x1024, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S2048x1024, .f32⟩
  | .hbm, ⟨18, _⟩ => ⟨S2048x1024, .f32⟩
  | .hbm, ⟨19, _⟩ => ⟨S2048x3072, .f32⟩
  | .hbm, ⟨20, _⟩ => ⟨S2048x3072, .bf16⟩
  | .hbm, ⟨21, _⟩ => ⟨S2048x1024, .f32⟩
  | .local _ .vmem, ⟨0, _⟩ => ⟨S1024x128, .bf16⟩
  | .local _ .vmem, ⟨1, _⟩ => ⟨S1024x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S1024x128, .f32⟩
  | .local _ .vmem, ⟨7, _⟩ => ⟨S1024x128, .f32⟩
  | _, _ => ⟨S1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 2], ![false, false]⟩

@[reducible] def k0_t1_loop : Scf.Loop 32 :=
  let c0_i32 : BitVec 32 := 0#32
  let c2_i32 : BitVec 32 := 2#32
  let v13 : BitVec 32 := Scalar.addi c0_i32 c2_i32
  let c1_i32 : BitVec 32 := 1#32
  ⟨c0_i32, v13, c1_i32⟩
@[reducible] def k0_t2_loop : Scf.Loop 32 :=
  let c0_i32_23 : BitVec 32 := 0#32
  let c2_i32_24 : BitVec 32 := 2#32
  let v45 : BitVec 32 := Scalar.addi c0_i32_23 c2_i32_24
  let c1_i32_25 : BitVec 32 := 1#32
  ⟨c0_i32_23, v45, c1_i32_25⟩
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelRowsIdeal.lean ====
variable {F : FTy → Type} [FloatOps F] [Named F]
def κ : String → Option EReal := fun
  | "log2_e" => some (((Real.log 2)⁻¹ : ℝ) : EReal)
  | _ => none
-- ==== ReferenceRowsIdeal.lean ====
abbrev S1 : Shape := ⟨1, ![1]⟩
abbrev S4 : Shape := ⟨1, ![4]⟩
abbrev S_ : Shape := ⟨0, ![]⟩
abbrev S1x16x2048x64 : Shape := ⟨4, ![1, 16, 2048, 64]⟩
abbrev S4x512 : Shape := ⟨2, ![4, 512]⟩
abbrev S2048 : Shape := ⟨1, ![2048]⟩
abbrev S1x1x2048x1 : Shape := ⟨4, ![1, 1, 2048, 1]⟩
abbrev S1x16x2048x2048 : Shape := ⟨4, ![1, 16, 2048, 2048]⟩
abbrev S1x16x2048 : Shape := ⟨3, ![1, 16, 2048]⟩
abbrev S1x16x2048x1 : Shape := ⟨4, ![1, 16, 2048, 1]⟩
abbrev S1x16x2048x1024 : Shape := ⟨4, ![1, 16, 2048, 1024]⟩
abbrev S32768x1024 : Shape := ⟨2, ![32768, 1024]⟩
abbrev S32768x2048 : Shape := ⟨2, ![32768, 2048]⟩
abbrev S32768 : Shape := ⟨1, ![32768]⟩
abbrev S32768x1 : Shape := ⟨2, ![32768, 1]⟩
abbrev S32768x1024x1 : Shape := ⟨3, ![32768, 1024, 1]⟩
abbrev S32768x1024x2 : Shape := ⟨3, ![32768, 1024, 2]⟩
abbrev S1x2048x16x64 : Shape := ⟨4, ![1, 2048, 16, 64]⟩
abbrev S2048x1024 : Shape := ⟨2, ![2048, 1024]⟩

abbrev nBuf : Space → Nat
  | .hbm => 84
  | .vmem => 0
  | .smem => 0
  | _ => 0

abbrev bufTy : (tb : Table) → Fin (tcTables nBuf tb) → BufTy
  | .hbm, ⟨0, _⟩ => ⟨S1, .f32⟩
  | .hbm, ⟨1, _⟩ => ⟨S4, .f32⟩
  | .hbm, ⟨2, _⟩ => ⟨S4, .f32⟩
  | .hbm, ⟨3, _⟩ => ⟨S_, .f32⟩
  | .hbm, ⟨4, _⟩ => ⟨S1x16x2048x64, .f32⟩
  | .hbm, ⟨5, _⟩ => ⟨S4x512, .f32⟩
  | .hbm, ⟨6, _⟩ => ⟨S2048, .f32⟩
  | .hbm, ⟨7, _⟩ => ⟨S1x1x2048x1, .f32⟩
  | .hbm, ⟨8, _⟩ => ⟨S1x16x2048x64, .f32⟩
  | .hbm, ⟨9, _⟩ => ⟨S4x512, .f32⟩
  | .hbm, ⟨10, _⟩ => ⟨S2048, .f32⟩
  | .hbm, ⟨11, _⟩ => ⟨S1x1x2048x1, .f32⟩
  | .hbm, ⟨12, _⟩ => ⟨S1x16x2048x64, .f32⟩
  | .hbm, ⟨13, _⟩ => ⟨S1x16x2048x2048, .f32⟩
  | .hbm, ⟨14, _⟩ => ⟨S_, .f32⟩
  | .hbm, ⟨15, _⟩ => ⟨S1x16x2048x2048, .f32⟩
  | .hbm, ⟨16, _⟩ => ⟨S1x16x2048x2048, .f32⟩
  | .hbm, ⟨17, _⟩ => ⟨S_, .f32⟩
  | .hbm, ⟨18, _⟩ => ⟨S1x16x2048, .f32⟩
  | .hbm, ⟨19, _⟩ => ⟨S_, .f32⟩
  | .hbm, ⟨20, _⟩ => ⟨S1x16x2048, .f32⟩
  | .hbm, ⟨21, _⟩ => ⟨S1x16x2048, .f32⟩
  | .hbm, ⟨22, _⟩ => ⟨S1x16x2048x1, .f32⟩
  | .hbm, ⟨23, _⟩ => ⟨S1x16x2048x2048, .f32⟩
  | .hbm, ⟨24, _⟩ => ⟨S1x16x2048x2048, .f32⟩
  | .hbm, ⟨25, _⟩ => ⟨S1x16x2048x2048, .f32⟩
  | .hbm, ⟨26, _⟩ => ⟨S_, .f32⟩
  | .hbm, ⟨27, _⟩ => ⟨S1x16x2048, .f32⟩
  | .hbm, ⟨28, _⟩ => ⟨S1x16x2048x1, .f32⟩
  | .hbm, ⟨29, _⟩ => ⟨S1x16x2048x2048, .f32⟩
  | .hbm, ⟨30, _⟩ => ⟨S1x16x2048x2048, .f32⟩
  | .hbm, ⟨31, _⟩ => ⟨S1x16x2048x1024, .f32⟩
  | .hbm, ⟨32, _⟩ => ⟨S1x16x2048x1024, .i32⟩
  | .hbm, ⟨33, _⟩ => ⟨S32768x1024, .i32⟩
  | .hbm, ⟨34, _⟩ => ⟨S_, .f32⟩
  | .hbm, ⟨35, _⟩ => ⟨S32768x2048, .f32⟩
  | .hbm, ⟨36, _⟩ => ⟨S32768, .i32⟩
  | .hbm, ⟨37, _⟩ => ⟨S32768x1, .i32⟩
  | .hbm, ⟨38, _⟩ => ⟨S_, .i32⟩
  | .hbm, ⟨39, _⟩ => ⟨S32768x1, .i32⟩
  | .hbm, ⟨40, _⟩ => ⟨S32768x1, .i1⟩
  | .hbm, ⟨41, _⟩ => ⟨S_, .i32⟩
  | .hbm, ⟨42, _⟩ => ⟨S32768x1, .i32⟩
  | .hbm, ⟨43, _⟩ => ⟨S32768x1, .i32⟩
  | .hbm, ⟨44, _⟩ => ⟨S32768x1, .i32⟩
  | .hbm, ⟨45, _⟩ => ⟨S_, .i32⟩
  | .hbm, ⟨46, _⟩ => ⟨S32768x1024, .i32⟩
  | .hbm, ⟨47, _⟩ => ⟨S32768x1024, .i1⟩
  | .hbm, ⟨48, _⟩ => ⟨S_, .i32⟩
  | .hbm, ⟨49, _⟩ => ⟨S32768x1024, .i32⟩
  | .hbm, ⟨50, _⟩ => ⟨S32768x1024, .i32⟩
  | .hbm, ⟨51, _⟩ => ⟨S32768x1024, .i32⟩
  | .hbm, ⟨52, _⟩ => ⟨S32768x1024, .i32⟩
  | .hbm, ⟨53, _⟩ => ⟨S32768x1024x1, .i32⟩
  | .hbm, ⟨54, _⟩ => ⟨S32768x1024x1, .i32⟩
  | .hbm, ⟨55, _⟩ => ⟨S32768x1024x2, .i32⟩
  | .hbm, ⟨56, _⟩ => ⟨S_, .f32⟩
  | .hbm, ⟨57, _⟩ => ⟨S32768x1024, .f32⟩
  | .hbm, ⟨58, _⟩ => ⟨S32768x2048, .f32⟩
  | .hbm, ⟨59, _⟩ => ⟨S1x16x2048x2048, .f32⟩
  | .hbm, ⟨60, _⟩ => ⟨S_, .f32⟩
  | .hbm, ⟨61, _⟩ => ⟨S1x16x2048x2048, .f32⟩
  | .hbm, ⟨62, _⟩ => ⟨S1x16x2048x2048, .i1⟩
  | .hbm, ⟨63, _⟩ => ⟨S_, .f32⟩
  | .hbm, ⟨64, _⟩ => ⟨S_, .f32⟩
  | .hbm, ⟨65, _⟩ => ⟨S1x16x2048x2048, .f32⟩
  | .hbm, ⟨66, _⟩ => ⟨S1x16x2048x2048, .f32⟩
  | .hbm, ⟨67, _⟩ => ⟨S_, .f32⟩
  | .hbm, ⟨68, _⟩ => ⟨S1x16x2048, .f32⟩
  | .hbm, ⟨69, _⟩ => ⟨S_, .f32⟩
  | .hbm, ⟨70, _⟩ => ⟨S1x16x2048, .f32⟩
  | .hbm, ⟨71, _⟩ => ⟨S1x16x2048, .f32⟩
  | .hbm, ⟨72, _⟩ => ⟨S1x16x2048x1, .f32⟩
  | .hbm, ⟨73, _⟩ => ⟨S1x16x2048x2048, .f32⟩
  | .hbm, ⟨74, _⟩ => ⟨S1x16x2048x2048, .f32⟩
  | .hbm, ⟨75, _⟩ => ⟨S1x16x2048x2048, .f32⟩
  | .hbm, ⟨76, _⟩ => ⟨S_, .f32⟩
  | .hbm, ⟨77, _⟩ => ⟨S1x16x2048, .f32⟩
  | .hbm, ⟨78, _⟩ => ⟨S1x16x2048x1, .f32⟩
  | .hbm, ⟨79, _⟩ => ⟨S1x16x2048x2048, .f32⟩
  | .hbm, ⟨80, _⟩ => ⟨S1x16x2048x2048, .f32⟩
  | .hbm, ⟨81, _⟩ => ⟨S1x16x2048x64, .f32⟩
  | .hbm, ⟨82, _⟩ => ⟨S1x2048x16x64, .f32⟩
  | .hbm, ⟨83, _⟩ => ⟨S2048x1024, .f32⟩
  | _, _ => ⟨S1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_values : Ref sig .tc := ⟨.hbm, 31, rfl⟩
abbrev main_indices : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_c : Ref sig .tc := ⟨.hbm, 38, rfl⟩
abbrev main_v28 : Ref sig .tc := ⟨.hbm, 39, rfl⟩
abbrev main_v29 : Ref sig .tc := ⟨.hbm, 40, rfl⟩
abbrev main_c_4 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_c_5 : Ref sig .tc := ⟨.hbm, 45, rfl⟩
abbrev main_v33 : Ref sig .tc := ⟨.hbm, 46, rfl⟩
abbrev main_v34 : Ref sig .tc := ⟨.hbm, 47, rfl⟩
abbrev main_c_6 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_7 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_8 : Ref sig .tc := ⟨.hbm, 60, rfl⟩
abbrev main_v45 : Ref sig .tc := ⟨.hbm, 61, rfl⟩
abbrev main_v46 : Ref sig .tc := ⟨.hbm, 62, rfl⟩
abbrev main_cst_9 : Ref sig .tc := ⟨.hbm, 63, rfl⟩
abbrev main_call0_v0 : Ref sig .tc := ⟨.hbm, 64, rfl⟩
abbrev main_call0_v1 : Ref sig .tc := ⟨.hbm, 65, rfl⟩
abbrev main_v47 : Ref sig .tc := ⟨.hbm, 66, rfl⟩
abbrev main_cst_10 : Ref sig .tc := ⟨.hbm, 67, rfl⟩
abbrev main_v48 : Ref sig .tc := ⟨.hbm, 68, rfl⟩
abbrev main_cst_11 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_12 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩

abbrev nD : Nat := 1
abbrev τ : Topo := Topo.v7x

variable {F : FTy → Type} [FloatOps F]
-- ==== Proof.Frames.lean ====
/- The frames and the named constant: the printed kernel at `Bits`, its idealization and the reference at `Ideal`, and the same
   three of the attention call alone, run to a quiescent end with their arguments unchanged, and the constant named `log2_e`
   is the real it is named after. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.KernelRows.Frame
public import proofs.«01_k».proof.Proof.Gen.KernelRowsIdeal.Frame
public import proofs.«01_k».proof.Proof.Gen.ReferenceRowsIdeal.Run
public import Idealize.ShloMosaic.Adequacy
public import Idealize.ShloMosaic.Init

@[expose] public section

noncomputable section

namespace Cert.Proof

open Idealize.ShloMosaic Idealize.SL.Sem

/-- The printed kernel runs, at the machine's own floats. -/
theorem frame_kernel : Cert.quiescent_Kernel (hKernel := Cert.Kernel.Gen.facts) :=
  fun m ρ _ => Cert.Kernel.Gen.frame m ρ

/-- The idealized kernel runs, over the extended reals. -/
theorem frame_kernelIdeal : Cert.quiescent_KernelIdeal (hKernelIdeal := Cert.KernelIdeal.Gen.facts) :=
  fun m ρ _ => Cert.KernelIdeal.Gen.frame m ρ

/-- The reference runs: it is host operations only, and has no semaphore. -/
theorem frame_referenceIdeal : Cert.quiescent_ReferenceIdeal (hReferenceIdeal := Cert.ReferenceIdeal.Gen.facts) := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The kernel's literal 1.44269502 is read as `1 / ln 2`, the real it was computed from. -/
theorem preserves_log2_e : Cert.preserves_Kernel_KernelIdeal :=
  IdealRules.named_const.statement Cert.KernelIdeal.κ "log2_e" .f32 0x3FB8AA3B#32 (((Real.log 2)⁻¹ : ℝ) : EReal) rfl

theorem frame_kernelRows : Cert.quiescent_KernelRows (hKernelRows := Cert.KernelRows.Gen.facts) :=
  fun m ρ _ => Cert.KernelRows.Gen.frame m ρ

theorem frame_kernelRowsIdeal : Cert.quiescent_KernelRowsIdeal (hKernelRowsIdeal := Cert.KernelRowsIdeal.Gen.facts) :=
  fun m ρ _ => Cert.KernelRowsIdeal.Gen.frame m ρ

theorem frame_referenceRowsIdeal : Cert.quiescent_ReferenceRowsIdeal (hReferenceRowsIdeal := Cert.ReferenceRowsIdeal.Gen.facts) := fun m ρ _ =>
  (θ_run Cert.ReferenceRowsIdeal.defs _ _).mono (fun r h => ⟨fun c => (h c).2,
      Idealize.ShloMosaic.sem_eq_zero_of_no_sems (by decide) r.2⟩)
    (Cert.ReferenceRowsIdeal.Value.run (F := Ideal) m ρ)

theorem preserves_rows : Cert.preserves_KernelRows_KernelRowsIdeal :=
  IdealRules.named_const.statement Cert.KernelRowsIdeal.κ "log2_e" .f32 0x3FB8AA3B#32 (((Real.log 2)⁻¹ : ℝ) : EReal) rfl

end Cert.Proof

end
-- ==== Proof.LaunchRun.lean ====
/- The whole run of the kernel program: every execution ends with the result array at the last fold of its buffers, and the
   arguments unchanged. -/
module

public import proofs.«01_k».proof.Proof.Gen.KernelIdeal.Frame
public import Idealize.ShloMosaic.Adequacy
public import Idealize.ShloMosaic.Init

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.Proof.Whole

open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

-- the launch's implicit arguments are found by unifying its conclusion with the statement
set_option backward.isDefEq.respectTransparency.types false in
/-- Every run ends with the result at the last fold and the arguments as launched. -/
theorem run : θ_run (defs (F := Ideal)) (onTc (τ := τ) (main (F := Ideal))) ⟨m, fun _ => 0, ρ⟩ (fun r => ∀ c : Dev nD,
      r.2.mem ((c.tc : Thread nD τ).loc main_v25) = W8 m ρ c (Proc.devRef .tc main_v25)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h hz c =>
      ⟨h c _ (mem_uc main_v25 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c)⟩)

end Cert.Proof.Whole
-- ==== Proof.Math.lean ====
/- One attention row: the kernel's form of it (two bisection steps, softmax weights never divided, entries below the cut set to one) is the reference's (softmax, cut at a quantised k-th largest weight, softmax again). -/
module

public import Idealize.ShloMosaic.PureOps.Ideal
public import Idealize.ShloMosaic.Lib.Pipeline.ValueKit
public import Mathlib.Analysis.SpecialFunctions.Pow.Real

@[expose] public section

set_option maxRecDepth 16384

noncomputable section

open Idealize.ShloMosaic Idealize.ShloMosaic.TcCoe Idealize.SL.Sem
open Idealize.ShloMosaic.Pipeline (Dat)

namespace Cert.Proof.Row

open Finset

/-! ### The kernel's row -/

/-- At least half of the row's entries exceed `x`. -/
def many (e : Fin 2048 → EReal) (x : EReal) : Prop := 1024 ≤ (univ.filter fun t => x < e t).card

open Classical in
/-- One bisection step on the cut `(lo, hi)`. -/
def step (e : Fin 2048 → EReal) (p : EReal × EReal) : EReal × EReal :=
  let mid : EReal := ((1 / 2 : ℝ) : EReal) * (p.1 + p.2)
  (if many e mid then mid else p.1, if many e mid then p.2 else mid)

/-- The cut after two steps from `[0, z / 1024]`. -/
def cut (e : Fin 2048 → EReal) (z : EReal) : EReal :=
  (step e (step e (0, z * ((1 / 1024 : ℝ) : EReal)))).1

/-- `1 / ln 2`. -/
def lg : EReal := (((Real.log 2)⁻¹ : ℝ) : EReal)

open Classical in
/-- The second softmax's unnormalised weight of entry `t`. -/
def wt (e : Fin 2048 → EReal) (t : Fin 2048) : EReal :=
  if cut e (∑ u, e u) < e t then Ideal.exp2 (e t * Ideal.div lg (∑ u, e u)) else 1

/-- The kernel's row. -/
def krow (e v : Fin 2048 → EReal) : EReal := Ideal.div (∑ t, wt e t * v t) (∑ t, wt e t)

/-! ### The reference's row -/

/-- The first softmax, its maximum `M` taken out. -/
def w1 (s : Fin 2048 → EReal) (M : EReal) (t : Fin 2048) : EReal :=
  Ideal.div (Ideal.exp (s t - M)) (∑ u, Ideal.exp (s u - M))

open Classical in
/-- The k-th largest weight rounded down to a multiple of half the mean weight, at most three. -/
def quant (kth : EReal) : EReal :=
  if ((3 / 4096 : ℝ) : EReal) < kth then ((3 / 4096 : ℝ) : EReal)
  else if ((2 / 4096 : ℝ) : EReal) < kth then ((2 / 4096 : ℝ) : EReal)
  else if ((1 / 4096 : ℝ) : EReal) < kth then ((1 / 4096 : ℝ) : EReal) else 0

open Classical in
/-- The weights below the cut set to nothing. -/
def masked (s : Fin 2048 → EReal) (M kth : EReal) (t : Fin 2048) : EReal :=
  if quant kth < w1 s M t then w1 s M t else 0

/-- The reference's row. -/
def rrow (s : Fin 2048 → EReal) (M kth M2 : EReal) (v : Fin 2048 → EReal) : EReal :=
  ∑ t, Ideal.div (Ideal.exp (masked s M kth t - M2)) (∑ u, Ideal.exp (masked s M kth u - M2)) * v t

/-! ### Sums and quotients -/

theorem sum_coe {n : ℕ} (f : Fin n → ℝ) : (∑ t, (f t : EReal)) = ((∑ t, f t : ℝ) : EReal) :=
  (map_sum (⟨⟨(fun x : ℝ => (x : EReal)), EReal.coe_zero⟩, EReal.coe_add⟩ : ℝ →+ EReal) f univ).symm

/-- A real factor goes through a sum of extended reals. -/
theorem mul_sum_real {n : ℕ} (a : ℝ) (f : Fin n → EReal) (ha : 0 ≤ a) : (a : EReal) * ∑ t, f t = ∑ t, (a : EReal) * f t := by
  classical
  induction (univ : Finset (Fin n)) using Finset.induction_on with
  | empty => simp
  | insert i s hi ih =>
    rw [Finset.sum_insert hi, Finset.sum_insert hi, ← ih]
    exact EReal.left_distrib_of_nonneg_of_ne_top (by exact_mod_cast ha) (EReal.coe_ne_top a) _ _

/-- A row of real weights over their positive sum: dividing once is dividing each. -/
theorem div_row (a : Fin 2048 → ℝ) (v : Fin 2048 → EReal) (hA : 0 < ∑ t, a t) (b : Fin 2048 → ℝ) (k : ℝ) (hk : 0 < k)
    (hb : ∀ t, b t = k * a t) :
    Ideal.div (∑ t, (a t : EReal) * v t) (∑ t, (a t : EReal))
      = ∑ t, Ideal.div (b t : EReal) (∑ u, (b u : EReal)) * v t := by
  have hB : (∑ t, b t) = k * ∑ t, a t := by rw [Finset.mul_sum]; exact Finset.sum_congr rfl fun t _ => hb t
  rw [sum_coe, sum_coe, Ideal.div_coe hA.ne', mul_comm, mul_sum_real _ _ (by positivity)]
  refine Finset.sum_congr rfl fun t _ => ?_
  have hB0 : (∑ t, b t) ≠ 0 := by rw [hB]; positivity
  rw [Ideal.div_coe hB0, ← mul_assoc, ← EReal.coe_mul, ← EReal.coe_mul, hB, hb]
  congr 2
  field_simp

/-! ### Thresholds -/

theorem many_mono {e : Fin 2048 → EReal} {x y : EReal} (h : x ≤ y) (hy : many e y) : many e x :=
  le_trans hy (Finset.card_le_card fun t ht => by
    rw [Finset.mem_filter] at ht ⊢
    exact ⟨ht.1, lt_of_le_of_lt h ht.2⟩)

open Classical in
theorem step_at (e : Fin 2048 → EReal) (a b m : EReal) (h : ((1 / 2 : ℝ) : EReal) * (a + b) = m) :
    step e (a, b) = (if many e m then m else a, if many e m then b else m) := by
  subst h; rfl

open Classical in
/-- The cut in closed form: the largest of three multiples of half the mean that half of the entries exceed. -/
theorem cut_eq (e : Fin 2048 → EReal) (X : ℝ) :
    cut e (X : EReal) = if many e ((2 / 4096 * X : ℝ) : EReal)
      then (if many e ((3 / 4096 * X : ℝ) : EReal) then ((3 / 4096 * X : ℝ) : EReal) else ((2 / 4096 * X : ℝ) : EReal))
      else (if many e ((1 / 4096 * X : ℝ) : EReal) then ((1 / 4096 * X : ℝ) : EReal) else 0) := by
  have m1 : ((1 / 2 : ℝ) : EReal) * (0 + (X : EReal) * ((1 / 1024 : ℝ) : EReal)) = ((2 / 4096 * X : ℝ) : EReal) := by
    rw [zero_add, ← EReal.coe_mul, ← EReal.coe_mul]; congr 1; ring
  have m2 : ((1 / 2 : ℝ) : EReal) * (((2 / 4096 * X : ℝ) : EReal) + (X : EReal) * ((1 / 1024 : ℝ) : EReal))
      = ((3 / 4096 * X : ℝ) : EReal) := by
    rw [← EReal.coe_mul, ← EReal.coe_add, ← EReal.coe_mul]; congr 1; ring
  have m3 : ((1 / 2 : ℝ) : EReal) * (0 + ((2 / 4096 * X : ℝ) : EReal)) = ((1 / 4096 * X : ℝ) : EReal) := by
    rw [zero_add, ← EReal.coe_mul]; congr 1; ring
  unfold cut
  rw [step_at e _ _ _ m1]
  by_cases h : many e ((2 / 4096 * X : ℝ) : EReal)
  · rw [if_pos h, if_pos h, if_pos h, step_at e _ _ _ m2]
  · rw [if_neg h, if_neg h, if_neg h, step_at e _ _ _ m3]

/-- The reference's cut and the kernel's are the same multiple of the mean. -/
theorem quant_cut (e : Fin 2048 → EReal) (X : ℝ) (hX : 0 < X) (kth : EReal)
    (hk : ∀ q : ℝ, ((q : ℝ) : EReal) < kth ↔ many e ((q * X : ℝ) : EReal)) :
    ∃ q : ℝ, quant kth = (q : EReal) ∧ cut e (X : EReal) = ((q * X : ℝ) : EReal) := by
  have mono : ∀ a b : ℝ, a ≤ b → many e ((b * X : ℝ) : EReal) → many e ((a * X : ℝ) : EReal) := fun a b hab =>
    many_mono (by exact_mod_cast mul_le_mul_of_nonneg_right hab hX.le)
  rw [cut_eq]
  unfold quant
  by_cases h3 : many e ((3 / 4096 * X : ℝ) : EReal)
  · have h2 := mono (2 / 4096) (3 / 4096) (by norm_num) h3
    exact ⟨3 / 4096, if_pos ((hk _).mpr h3), by rw [if_pos h2, if_pos h3]⟩
  · by_cases h2 : many e ((2 / 4096 * X : ℝ) : EReal)
    · exact ⟨2 / 4096, (if_neg (mt (hk _).mp h3)).trans (if_pos ((hk _).mpr h2)), by rw [if_pos h2, if_neg h3]⟩
    · by_cases h1 : many e ((1 / 4096 * X : ℝ) : EReal)
      · exact ⟨1 / 4096, (if_neg (mt (hk _).mp h3)).trans ((if_neg (mt (hk _).mp h2)).trans (if_pos ((hk _).mpr h1))), by
          rw [if_neg h2, if_pos h1]⟩
      · exact ⟨0, (if_neg (mt (hk _).mp h3)).trans ((if_neg (mt (hk _).mp h2)).trans ((if_neg (mt (hk _).mp h1)).trans
          EReal.coe_zero.symm)), by rw [if_neg h2, if_neg h1, zero_mul, EReal.coe_zero]⟩

/-! ### The row -/

theorem exp_sub_coe (a b : ℝ) : Ideal.exp ((a : EReal) - (b : EReal)) = ((Real.exp (a - b) : ℝ) : EReal) := by
  rw [← EReal.coe_sub, Ideal.exp_coe]

/-- When the masked weights are reals `m t` and the kernel's unnormalised weights their exponentials, the rows agree. -/
theorem row_of_real (s v e : Fin 2048 → EReal) (M kth M2 : EReal) (m : Fin 2048 → ℝ)
    (hw : ∀ t, wt e t = ((Real.exp (m t) : ℝ) : EReal)) (hm : ∀ t, masked s M kth t = (m t : EReal))
    (hM2 : ∃ t, M2 = masked s M kth t) : krow e v = rrow s M kth M2 v := by
  obtain ⟨t₀, h₀⟩ := hM2
  rw [hm] at h₀
  subst h₀
  unfold krow rrow
  simp only [hw, hm, exp_sub_coe]
  refine div_row (fun t => Real.exp (m t)) v (Finset.sum_pos (fun t _ => Real.exp_pos _) ⟨0, Finset.mem_univ _⟩)
    (fun t => Real.exp (m t - m t₀)) (Real.exp (-m t₀)) (Real.exp_pos _) fun t => ?_
  rw [← Real.exp_add]; congr 1; ring

theorem zero_le_quant (kth : EReal) : 0 ≤ quant kth := by
  unfold quant
  have h : ∀ q : ℝ, 0 ≤ q → (0 : EReal) ≤ (q : EReal) := fun q hq => by exact_mod_cast hq
  split_ifs
  · exact h _ (by norm_num)
  · exact h _ (by norm_num)
  · exact h _ (by norm_num)
  · exact le_rfl

/-- No weight of the first softmax is a number (0 / 0 throughout): nothing exceeds the cut. -/
theorem masked_of_bot (s : Fin 2048 → EReal) (M kth : EReal) (h : ∀ u, Ideal.exp (s u - M) = 0) (t : Fin 2048) :
    masked s M kth t = ((0 : ℝ) : EReal) := by
  have hw : w1 s M t = ⊥ := by
    unfold w1
    simp only [h, Finset.sum_const_zero]
    simp [Ideal.div]
  unfold masked
  rw [hw, if_neg not_lt_bot, EReal.coe_zero]

theorem sum_eq_top {f : Fin 2048 → EReal} (h0 : ∀ t, 0 ≤ f t) (t₀ : Fin 2048) (h : f t₀ = ⊤) : ∑ t, f t = ⊤ :=
  top_le_iff.mp (h ▸ Finset.single_le_sum (fun t _ => h0 t) (Finset.mem_univ t₀))

theorem exp_nonneg (x : EReal) : 0 ≤ Ideal.exp x := by
  induction x using EReal.rec with
  | bot => simp
  | top => simp
  | coe r => rw [Ideal.exp_coe]; exact_mod_cast (Real.exp_pos r).le

/-- THE ROW. `s` the scores, `M` their largest, `kth` the 1024-th largest weight, `M2` the largest masked weight. -/
theorem row_eq (s v : Fin 2048 → EReal) (M kth M2 : EReal) (hM : ∀ t, s t ≤ M) (hM' : ∃ t, s t = M)
    (hk : ∀ θ : EReal, θ < kth ↔ many (w1 s M) θ) (hM2 : ∃ t, M2 = masked s M kth t) :
    krow (fun t => Ideal.exp (s t)) v = rrow s M kth M2 v := by
  obtain ⟨t₀, ht₀⟩ := hM'
  induction M using EReal.rec with
  | bot =>
    have hs : ∀ t, s t = ⊥ := fun t => le_bot_iff.mp (hM t)
    refine row_of_real s v _ ⊥ kth M2 (fun _ => 0) (fun t => ?_)
      (masked_of_bot s ⊥ kth fun u => by rw [hs u]; simp) hM2
    have hz : ∑ u, Ideal.exp (s u) = ((0 : ℝ) : EReal) := by simp [hs]
    unfold wt
    rw [hz, cut_eq, if_neg, Real.exp_zero, EReal.coe_one]
    simp only [hs, Ideal.exp_bot, mul_zero, EReal.coe_zero, not_lt]
    split_ifs <;> exact le_rfl
  | top =>
    refine row_of_real s v _ ⊤ kth M2 (fun _ => 0) (fun t => ?_)
      (masked_of_bot s ⊤ kth fun u => by simp) hM2
    have hz : ∑ u, Ideal.exp (s u) = ⊤ := sum_eq_top (fun t => exp_nonneg _) t₀ (by rw [ht₀]; simp)
    unfold wt
    rw [hz]
    have hd : Ideal.div lg ⊤ = 0 := by simp [Ideal.div]
    rw [hd, mul_zero, Real.exp_zero, EReal.coe_one]
    split_ifs
    · rw [← EReal.coe_zero, Ideal.exp2_coe]; simp
    · rfl
  | coe μ =>
    have hx : ∀ t, ∃ x : ℝ, 0 ≤ x ∧ Ideal.exp (s t) = (x : EReal)
        ∧ Ideal.exp (s t - (μ : EReal)) = ((Real.exp (-μ) * x : ℝ) : EReal) := fun t => by
      have h := hM t
      generalize s t = r at h ⊢
      induction r using EReal.rec with
      | bot => exact ⟨0, le_rfl, by simp, by simp⟩
      | top => exact absurd h (by simp)
      | coe r =>
        refine ⟨Real.exp r, (Real.exp_pos r).le, Ideal.exp_coe r, ?_⟩
        rw [exp_sub_coe, ← Real.exp_add]; congr 2; ring
    choose x hx0 hx1 hx2 using hx
    have hX : 0 < ∑ t, x t := by
      refine Finset.sum_pos' (fun t _ => hx0 t) ⟨t₀, Finset.mem_univ _, ?_⟩
      have h := hx1 t₀
      rw [ht₀, Ideal.exp_coe] at h
      rw [← EReal.coe_eq_coe_iff.mp h]
      exact Real.exp_pos μ
    generalize hXd : ∑ t, x t = X at hX
    have hw1 : ∀ t, w1 s μ t = ((x t / X : ℝ) : EReal) := fun t => by
      unfold w1
      simp only [hx2]
      rw [sum_coe, ← Finset.mul_sum, hXd, Ideal.div_coe (by positivity), ← EReal.coe_mul]
      congr 1
      have := (Real.exp_pos (-μ)).ne'
      field_simp
    have hz : ∑ u, Ideal.exp (s u) = (X : EReal) := by simp only [hx1]; rw [sum_coe, hXd]
    have hmany : ∀ q : ℝ, ((q : ℝ) : EReal) < kth ↔ many (fun t => Ideal.exp (s t)) ((q * X : ℝ) : EReal) := fun q => by
      rw [hk]
      unfold many
      have : (univ.filter fun t => (q : EReal) < w1 s μ t)
          = univ.filter fun t => ((q * X : ℝ) : EReal) < Ideal.exp (s t) := by
        refine Finset.filter_congr fun t _ => ?_
        rw [hw1, hx1, EReal.coe_lt_coe_iff, EReal.coe_lt_coe_iff, lt_div_iff₀ hX]
      rw [this]
    obtain ⟨q, hq, hc⟩ := quant_cut _ X hX kth hmany
    refine row_of_real s v _ μ kth M2 (fun t => if q < x t / X then x t / X else 0) (fun t => ?_) (fun t => ?_) hM2
    · unfold wt
      dsimp only
      rw [hz, hc]
      have hiff : (((q * X : ℝ) : EReal) < Ideal.exp (s t)) ↔ q < x t / X := by
        rw [hx1, EReal.coe_lt_coe_iff, lt_div_iff₀ hX]
      by_cases h : q < x t / X
      · rw [if_pos (hiff.mpr h), if_pos h, hx1]
        unfold lg
        rw [Ideal.div_coe hX.ne', ← EReal.coe_mul, ← EReal.coe_mul, Ideal.exp2_coe]
        congr 1
        show (2 : ℝ) ^ (_ : ℝ) = _
        rw [Real.rpow_def_of_pos (by norm_num)]
        congr 1
        have := (Real.log_pos (by norm_num : (1 : ℝ) < 2)).ne'
        field_simp
      · rw [if_neg (fun h' => h (hiff.mp h')), if_neg h, Real.exp_zero, EReal.coe_one]
    · unfold masked
      rw [hq, hw1]
      by_cases h : q < x t / X
      · rw [if_pos (EReal.coe_lt_coe_iff.mpr h), if_pos h]
      · rw [if_neg (fun h' => h (EReal.coe_lt_coe_iff.mp h')), if_neg h, EReal.coe_zero]

/-! ### The k-th largest -/

/-- A descending rearrangement's entry 1023 exceeds `θ` exactly when at least 1024 entries do. -/
theorem kth_lt_iff (w y : Fin 2048 → EReal) (σ : Fin 2048 → Fin 2048) (hσ : Function.Bijective σ) (hy : ∀ k, y k = w (σ k))
    (hd : ∀ a b : Fin 2048, a < b → y b ≤ y a) (θ : EReal) : θ < y 1023 ↔ many w θ := by
  have hd' : ∀ a b : Fin 2048, a ≤ b → y b ≤ y a := fun a b h => by
    rcases h.eq_or_lt with rfl | h
    · exact le_rfl
    · exact hd a b h
  have hcard : (univ.filter fun t => θ < w t).card = (univ.filter fun t => θ < y t).card := by
    refine (Finset.card_bij (fun k _ => σ k) (fun k hk => ?_) (fun a _ b _ h => hσ.1 h) fun t ht => ?_).symm
    · rw [Finset.mem_filter] at hk ⊢; exact ⟨Finset.mem_univ _, by rw [← hy]; exact hk.2⟩
    · obtain ⟨k, rfl⟩ := hσ.2 t
      rw [Finset.mem_filter] at ht
      exact ⟨k, by rw [Finset.mem_filter]; exact ⟨Finset.mem_univ _, by rw [hy]; exact ht.2⟩, rfl⟩
  unfold many
  rw [hcard]
  constructor
  · intro h
    have : (Finset.Iic (1023 : Fin 2048)) ⊆ univ.filter fun t => θ < y t := fun k hk => by
      rw [Finset.mem_filter]
      exact ⟨Finset.mem_univ _, lt_of_lt_of_le h (hd' _ _ (Finset.mem_Iic.mp hk))⟩
    refine le_trans ?_ (Finset.card_le_card this)
    rw [Fin.card_Iic]; decide
  · intro h
    by_contra hn
    rw [not_lt] at hn
    have : (univ.filter fun t => θ < y t) ⊆ Finset.Iio (1023 : Fin 2048) := fun k hk => by
      rw [Finset.mem_filter] at hk
      rw [Finset.mem_Iio]
      by_contra hk'
      exact absurd (lt_of_lt_of_le hk.2 ((hd' _ _ (not_lt.mp hk')).trans hn)) (lt_irrefl _)
    have := h.trans (Finset.card_le_card this)
    rw [Fin.card_Iio] at this
    exact absurd this (by decide)

end Cert.Proof.Row
-- ==== Proof.Rows.lean ====
/- Two facts about a stack of score rows: the row maximum a reduction takes, and the 1024th largest a top-k takes. -/
module

public import proofs.«01_k».proof.Proof.Gen.ReferenceIdeal.Run
public import proofs.«01_k».proof.Proof.Math
public import Idealize.ShloMosaic.Lib.Pipeline.ValueKit
public import Idealize.ShloMosaic.Lib.SortFacts

@[expose] public section

set_option maxRecDepth 16384

noncomputable section

open Idealize.ShloMosaic Idealize.ShloMosaic.TcCoe Idealize.SL.Sem
open Idealize.ShloMosaic.Pipeline (Dat)

namespace Cert.Proof.Rows

open Cert.ReferenceIdeal

/-- The head-by-row shapes of the scores and of the row maxima. -/
abbrev SS : Shape := S1x16x2048x2048

theorem gt_iff (a b : EReal) : FloatOps.cmpfTotal (F := Ideal) (φ := .f32) .gt a b = 1#1 ↔ b < a := by
  show BitVec.ofBool (decide (b < a)) = 1#1 ↔ b < a
  by_cases h : b < a <;> simp [h]

/-- A two-operand sort read at an index: the element the sorting permutation of that row names. -/
theorem sort2_at {α β : Type} (s : Shape) (d : Nat) (hd : d < s.rank) (cmp : α × β → α × β → BitVec 1) (x : s.Idx → α) (y : s.Idx → β) (j : s.Idx) :
    (Host.sort2 s d cmp x y).1 j = x (j.along ⟨d, hd⟩ (sortedFrom (fun k k' =>
      cmp (x (j.along ⟨d, hd⟩ k), y (j.along ⟨d, hd⟩ k)) (x (j.along ⟨d, hd⟩ k'), y (j.along ⟨d, hd⟩ k')) == 1#1) (j ⟨d, hd⟩))) := by
  unfold Host.sort2
  rw [dif_pos hd]

theorem slice_at (v : FVec Ideal S1x16x2048x2048 .f32) (hs : S1x16x2048x2048.Slices (fun _ => 0) S1x16x2048x1024) (h : Fin 16) (r : Fin 2048) :
    extractStridedSlice S1x16x2048x1024 (fun _ => 0) v hs (ix4 0 h r (⟨1023, by decide⟩ : Fin 1024)) = v (ix4 0 h r (⟨1023, by decide⟩ : Fin 2048)) := by
  pointwise

theorem rank_lt : 3 < S1x16x2048x2048.rank := by decide

theorem along_at (h : Fin 16) (r k k' : Fin 2048) :
    Shape.Idx.along (s := S1x16x2048x2048) (ix4 (0 : Fin 1) h r k') ⟨3, rank_lt⟩ k = ix4 0 h r k := by
  funext a
  fin_cases a <;> rfl

/-- The order a descending sort of row `(h, r)` compares its positions by. -/
def before (x : FVec Ideal S1x16x2048x2048 .f32) (h : Fin 16) (r : Fin 2048) (k k' : Fin 2048) : Bool :=
  FloatOps.cmpfTotal (F := Ideal) (φ := .f32) .gt (x (ix4 0 h r k)) (x (ix4 0 h r k')) == 1#1

theorem top_at (x : FVec Ideal S1x16x2048x2048 .f32) (hs : S1x16x2048x2048.Slices (fun _ => 0) S1x16x2048x1024) (h : Fin 16) (r : Fin 2048) :
    (Host.topK S1x16x2048x1024 3 (FloatOps.cmpfTotal .gt) x hs).1 (ix4 0 h r (⟨1023, by decide⟩ : Fin 1024))
      = x (ix4 0 h r (sortedFrom (before x h r) ⟨1023, by decide⟩)) := by
  unfold Host.topK
  dsimp only
  rw [slice_at, sort2_at _ _ rank_lt]
  refine (congrArg x (along_at h r _ _)).trans ?_
  refine congrArg (fun k => x (ix4 0 h r k)) ?_
  refine congrArg (fun R : Fin 2048 → Fin 2048 → Bool => sortedFrom R (⟨1023, by decide⟩ : Fin 2048)) ?_
  funext k k'
  exact congrArg (fun b : BitVec 1 => b == 1#1) (congrArg₂ (fun a b : EReal => FloatOps.cmpfTotal (F := Ideal) (φ := .f32) .gt a b)
    (congrArg x (along_at h r k _)) (congrArg x (along_at h r k' _)))

/-- The sorted order is descending. -/
theorem order_desc (x : FVec Ideal S1x16x2048x2048 .f32) (h : Fin 16) (r : Fin 2048) (a b : Fin 2048) (hab : a < b) :
    (x (ix4 0 h r (sortedFrom (before x h r) b)) : EReal) ≤ x (ix4 0 h r (sortedFrom (before x h r) a)) := by
  have := sortedFrom_noInversion (before x h r) (before x h r) (fun a b h1 => ?_) (fun _ _ h1 => h1) (fun a b c h1 h2 => ?_) a b hab
  · unfold before at this
    rw [beq_eq_false_iff_ne, ne_eq, gt_iff, not_lt] at this
    exact this
  · unfold before at h1 ⊢
    rw [beq_iff_eq, gt_iff] at h1
    rw [beq_eq_false_iff_ne, ne_eq, gt_iff]
    exact not_lt.mpr h1.le
  · unfold before at h1 h2 ⊢
    rw [beq_eq_false_iff_ne, ne_eq, gt_iff, not_lt] at h1 h2 ⊢
    exact h1.trans h2

/-- A row of a top-k's values is a descending rearrangement of the row, its first 1024 entries. -/
theorem top_row (x : FVec Ideal S1x16x2048x2048 .f32) (hs : S1x16x2048x2048.Slices (fun _ => 0) S1x16x2048x1024) (h : Fin 16) (r : Fin 2048) :
    ∃ σ : Fin 2048 → Fin 2048, Function.Bijective σ
      ∧ (∀ a b : Fin 2048, a < b → (x (ix4 0 h r (σ b)) : EReal) ≤ x (ix4 0 h r (σ a)))
      ∧ (Host.topK S1x16x2048x1024 3 (FloatOps.cmpfTotal .gt) x hs).1 (ix4 0 h r (⟨1023, by decide⟩ : Fin 1024)) = x (ix4 0 h r (σ ⟨1023, by decide⟩)) :=
  ⟨sortedFrom (before x h r), ⟨sortedFrom_injective _, sortedFrom_surjective _⟩, order_desc x h r, top_at x hs h r⟩

/-- The row maximum is at least every entry, and is one of them. -/
theorem max_row (x : FVec Ideal S1x16x2048x2048 .f32) (h' : S1x16x2048x2048.ReducesTo [3] S1x16x2048) (hu : 0 < S_.numel) (h : Fin 16) (r : Fin 2048) :
    (∀ t : Fin 2048, (x (ix4 0 h r t) : EReal) ≤ Host.reduce FloatOps.maximumf x (constant S_ .f32 0xFF800000#32 : FVec Ideal S_ .f32) h' hu (ix3 0 h r))
      ∧ ∃ t : Fin 2048, (x (ix4 0 h r t) : EReal) = Host.reduce FloatOps.maximumf x (constant S_ .f32 0xFF800000#32 : FVec Ideal S_ .f32) h' hu (ix3 0 h r) := by
  have hl : ∀ t : Fin 2048, (show S1x16x2048x2048.Reduces [3] S1x16x2048 by decide).lift (ix3 (0 : Fin 1) h r) t = ix4 0 h r t := by
    intro t
    funext a
    fin_cases a <;> rfl
  have e : Host.reduce FloatOps.maximumf x (constant S_ .f32 0xFF800000#32 : FVec Ideal S_ .f32) h' hu (ix3 0 h r)
      = (Finset.univ : Finset (Fin 2048)).sup (fun t => (x (ix4 0 h r t) : EReal)) := by
    refine (Host.reduce_eq_fold_single FloatOps.maximumf x _ h' (by decide) hu _).trans ?_
    have hb : (constant S_ .f32 0xFF800000#32 : FVec Ideal S_ .f32) (Shape.Idx.first hu) = (⊥ : EReal) := by
      show Ideal.ofBits .f32 0xFF800000#32 = ⊥
      simp [Ideal.ofBits, Ideal.ieee]
    rw [hb]
    exact congrArg (fun f : Fin 2048 → EReal => (Finset.univ : Finset (Fin 2048)).sup f) (funext fun t => congrArg x (hl t))
  rw [e]
  refine ⟨fun t => Finset.le_sup (f := fun t => (x (ix4 0 h r t) : EReal)) (Finset.mem_univ t), ?_⟩
  obtain ⟨t, -, ht⟩ := Finset.exists_mem_eq_sup (Finset.univ : Finset (Fin 2048)) ⟨0, Finset.mem_univ 0⟩ (fun t => (x (ix4 0 h r t) : EReal))
  exact ⟨t, ht.symm⟩

end Cert.Proof.Rows
-- ==== Proof.RefAttn.lean ====
/- The reference's attention, stage by stage, at an index: projections, scores, the two softmaxes and the cut between them. -/
module

public import proofs.«01_k».proof.Proof.Gen.ReferenceIdeal.Read
public import proofs.«01_k».proof.Proof.Rows

@[expose] public section

set_option maxRecDepth 16384

noncomputable section

open Idealize.ShloMosaic Idealize.ShloMosaic.TcCoe Idealize.SL.Sem
open Idealize.ShloMosaic.Pipeline (Dat)

namespace Cert.Proof.RefAttn

open Cert.ReferenceIdeal Cert.ReferenceIdeal.Gen Cert.ReferenceIdeal.Read Cert.Proof.Rows Cert.Proof.Row

variable (x0 : FVec Ideal S1x2048x1024 .f32) (x1 : FVec Ideal S1024x1024 .f32) (x2 : FVec Ideal S1024 .f32)
  (x3 : FVec Ideal S2048x1024 .f32) (x4 : FVec Ideal S2048 .f32)

/-- The query projection of row `r`, lane `l`. -/
def ql (r : Fin 2048) (l : Fin 1024) : EReal := (∑ k : Fin 1024, (x0 (ix3 0 r k) : EReal) * x1 (ix2 l k)) + x2 (ix1 l)

/-- The key/value projection of row `r`, lane `l` (keys first). -/
def kvl (r : Fin 2048) (l : Fin 2048) : EReal := (∑ k : Fin 1024, (x0 (ix3 0 r k) : EReal) * x3 (ix2 l k)) + x4 (ix1 l)

theorem v6_at (h : Fin 16) (r : Fin 2048) (d : Fin 64) :
    val_main_v6 (F := Ideal) x0 x1 x2 (ix4 0 h r d) = ql x0 x1 x2 r ⟨h.val * 64 + d.val, by omega⟩ := by
  unfold val_main_v6 val_main_v5 val_main_v4 val_main_v3 val_main_v2 val_main_v1 val_main_v0
  pointwise [ql]

theorem v15_at (h : Fin 16) (r : Fin 2048) (d : Fin 64) :
    val_main_v15 (F := Ideal) x0 x3 x4 (ix4 0 h r d) = kvl x0 x3 x4 r ⟨h.val * 64 + d.val, by omega⟩ := by
  unfold val_main_v15 val_main_v14 val_main_v13 val_main_v12 val_main_v11 val_main_v10 val_main_v9 val_main_v8 val_main_v7
  pointwise [kvl]

theorem v18_at (h : Fin 16) (r : Fin 2048) (d : Fin 64) :
    val_main_v18 (F := Ideal) x0 x3 x4 (ix4 0 h r d) = kvl x0 x3 x4 r ⟨1024 + h.val * 64 + d.val, by omega⟩ := by
  unfold val_main_v18 val_main_v17 val_main_v16 val_main_v12 val_main_v11 val_main_v10 val_main_v9 val_main_v8 val_main_v7
  pointwise [kvl]

/-- The scores of head `h`, row `r`. -/
def sc (h : Fin 16) (r : Fin 2048) (t : Fin 2048) : EReal := val_main_v21 (F := Ideal) x0 x1 x2 x3 x4 (ix4 0 h r t)

theorem sc_eq (h : Fin 16) (r : Fin 2048) (t : Fin 2048) :
    sc x0 x1 x2 x3 x4 h r t = Ideal.div (∑ k : Fin 64, ql x0 x1 x2 r ⟨h.val * 64 + k.val, by omega⟩ * kvl x0 x3 x4 t ⟨h.val * 64 + k.val, by omega⟩)
      (Ideal.ofBits .f32 0x41000000#32) := by
  unfold sc
  rw [val_main_v21_apply, val_main_v19_apply]
  refine congrArg (fun a : EReal => Ideal.div a (Ideal.ofBits .f32 0x41000000#32)) (Finset.sum_congr rfl fun k _ => ?_)
  rw [← v6_at x0 x1 x2 h r k, ← v15_at x0 x3 x4 h t k]
  have e1 : lidx_main_v19 (ix4 0 h r t) k = ix4 0 h r k := by funext a; fin_cases a <;> rfl
  have e2 : ridx_main_v19 (ix4 0 h r t) k = ix4 0 h t k := by funext a; fin_cases a <;> rfl
  rw [e1, e2]

/-- The row maximum of the scores. -/
def mx (h : Fin 16) (r : Fin 2048) : EReal := val_main_v24 (F := Ideal) x0 x1 x2 x3 x4 (ix3 0 h r)

theorem bot_word : (FloatOps.ofBits .f32 0xFF800000#32 : Ideal .f32) = (⊥ : EReal) := by
  show Ideal.ofBits .f32 0xFF800000#32 = ⊥
  simp [Ideal.ofBits, Ideal.ieee]

theorem mx_eq (h : Fin 16) (r : Fin 2048) : mx x0 x1 x2 x3 x4 h r = val_main_v22 (F := Ideal) x0 x1 x2 x3 x4 (ix3 0 h r) := by
  unfold mx
  rw [val_main_v24_apply, val_main_v23_apply, val_main_cst_1_apply, bot_word]
  exact max_eq_right bot_le

theorem mx_le (h : Fin 16) (r : Fin 2048) (t : Fin 2048) : sc x0 x1 x2 x3 x4 h r t ≤ mx x0 x1 x2 x3 x4 h r := by
  rw [mx_eq]
  exact (max_row (val_main_v21 (F := Ideal) x0 x1 x2 x3 x4) _ _ h r).1 t

theorem mx_att (h : Fin 16) (r : Fin 2048) : ∃ t, sc x0 x1 x2 x3 x4 h r t = mx x0 x1 x2 x3 x4 h r := by
  rw [mx_eq]
  exact (max_row (val_main_v21 (F := Ideal) x0 x1 x2 x3 x4) _ _ h r).2

/-- The first softmax. -/
theorem v32_at (h : Fin 16) (r : Fin 2048) (t : Fin 2048) :
    val_main_v32 (F := Ideal) x0 x1 x2 x3 x4 (ix4 0 h r t) = w1 (sc x0 x1 x2 x3 x4 h r) (mx x0 x1 x2 x3 x4 h r) t := by
  unfold val_main_v32 val_main_v31 val_main_v30 val_main_v29 val_main_v28 val_main_v27 val_main_v26 val_main_v25 val_main_cst_2
  pointwise [w1, sc, mx]

/-- The 1024th largest weight. -/
def kth (h : Fin 16) (r : Fin 2048) : EReal := val_main_v33 (F := Ideal) x0 x1 x2 x3 x4 (ix4 0 h r 0)

theorem kth_iff (h : Fin 16) (r : Fin 2048) (θ : EReal) :
    θ < kth x0 x1 x2 x3 x4 h r ↔ many (w1 (sc x0 x1 x2 x3 x4 h r) (mx x0 x1 x2 x3 x4 h r)) θ := by
  obtain ⟨σ, hσ, hd, he⟩ := top_row (val_main_v32 (F := Ideal) x0 x1 x2 x3 x4) sliceFits_S1x16x2048x2048_S1x16x2048x1024 h r
  have hk : kth x0 x1 x2 x3 x4 h r = val_main_v32 (F := Ideal) x0 x1 x2 x3 x4 (ix4 0 h r (σ ⟨1023, by decide⟩)) := by
    rw [← he]
    unfold kth
    rw [val_main_v33_apply]
    unfold val_main_values
    refine congrArg _ ?_
    funext a; fin_cases a <;> rfl
  rw [hk]
  simp only [v32_at] at hd ⊢
  exact kth_lt_iff _ (fun k => w1 (sc x0 x1 x2 x3 x4 h r) (mx x0 x1 x2 x3 x4 h r) (σ k)) σ hσ (fun _ => rfl) hd θ

theorem w_one : (FloatOps.ofBits .f32 0x39800000#32 : Ideal .f32) = ((1 / 4096 : ℝ) : EReal) := by
  show Ideal.ofBits .f32 0x39800000#32 = _
  simp [Ideal.ofBits, Ideal.ieee, -EReal.coe_mul]; norm_num

theorem w_two : (FloatOps.ofBits .f32 0x3A000000#32 : Ideal .f32) = ((2 / 4096 : ℝ) : EReal) := by
  show Ideal.ofBits .f32 0x3A000000#32 = _
  simp [Ideal.ofBits, Ideal.ieee, -EReal.coe_mul]; norm_num

theorem w_three : (FloatOps.ofBits .f32 0x3A400000#32 : Ideal .f32) = ((3 / 4096 : ℝ) : EReal) := by
  show Ideal.ofBits .f32 0x3A400000#32 = _
  simp [Ideal.ofBits, Ideal.ieee, -EReal.coe_mul]; norm_num

/-- The cut: the 1024th largest weight rounded strictly down. -/
theorem v43_at (h : Fin 16) (r : Fin 2048) :
    val_main_v43 (F := Ideal) x0 x1 x2 x3 x4 (ix4 0 h r 0) = quant (kth x0 x1 x2 x3 x4 h r) := by
  unfold val_main_v43 val_main_v42 val_main_v41 val_main_v40 val_main_v39 val_main_v38 val_main_v37 val_main_v36 val_main_v35 val_main_v34
    val_main_call2_v1 val_main_call2_v0 val_main_call1_v1 val_main_call1_v0 val_main_call0_v1 val_main_call0_v0
  unfold quant
  rw [← w_one, ← w_two, ← w_three]
  pointwise [kth, val_main_cst_3, val_main_cst_4, val_main_cst_5, val_main_cst_6, val_main_cst_7, val_main_cst_8, val_main_cst_9, id_eq]

/-- The weights with those at or under the cut set to zero. -/
theorem v46_at (h : Fin 16) (r : Fin 2048) (t : Fin 2048) :
    val_main_v46 (F := Ideal) x0 x1 x2 x3 x4 (ix4 0 h r t)
      = masked (sc x0 x1 x2 x3 x4 h r) (mx x0 x1 x2 x3 x4 h r) (kth x0 x1 x2 x3 x4 h r) t := by
  unfold masked
  rw [← v43_at, ← v32_at]
  unfold val_main_v46 val_main_v45 val_main_v44 val_main_call3_v1 val_main_call3_v0 val_main_cst_10
  simp only [id_eq]
  pointwise

/-- The second row maximum. -/
def mx2 (h : Fin 16) (r : Fin 2048) : EReal := val_main_v49 (F := Ideal) x0 x1 x2 x3 x4 (ix3 0 h r)

theorem mx2_eq (h : Fin 16) (r : Fin 2048) : mx2 x0 x1 x2 x3 x4 h r = val_main_v47 (F := Ideal) x0 x1 x2 x3 x4 (ix3 0 h r) := by
  unfold mx2
  rw [val_main_v49_apply, val_main_v48_apply, val_main_cst_12_apply, bot_word]
  exact max_eq_right bot_le

theorem mx2_att (h : Fin 16) (r : Fin 2048) : ∃ t, mx2 x0 x1 x2 x3 x4 h r
    = masked (sc x0 x1 x2 x3 x4 h r) (mx x0 x1 x2 x3 x4 h r) (kth x0 x1 x2 x3 x4 h r) t := by
  obtain ⟨t, ht⟩ := (max_row (val_main_v46 (F := Ideal) x0 x1 x2 x3 x4) reducesTo_S1x16x2048x2048_S1x16x2048_d3 h_S_ h r).2
  exact ⟨t, by rw [mx2_eq, ← v46_at, ht]; rfl⟩

/-- The second softmax against the values: one attention row. -/
theorem v58_at (h : Fin 16) (r : Fin 2048) (d : Fin 64) :
    val_main_v58 (F := Ideal) x0 x1 x2 x3 x4 (ix4 0 h r d)
      = rrow (sc x0 x1 x2 x3 x4 h r) (mx x0 x1 x2 x3 x4 h r) (kth x0 x1 x2 x3 x4 h r) (mx2 x0 x1 x2 x3 x4 h r)
          (fun t => kvl x0 x3 x4 t ⟨1024 + h.val * 64 + d.val, by omega⟩) := by
  unfold rrow
  simp only [← v46_at, ← v18_at]
  unfold val_main_v58 val_main_v57 val_main_v56 val_main_v55 val_main_v54 val_main_v53 val_main_v52 val_main_v51 val_main_v50 val_main_cst_13
  pointwise [mx2]

theorem v60_at (r : Fin 2048) (l : Fin 1024) :
    val_main_v60 (F := Ideal) x0 x1 x2 x3 x4 (ix3 0 r l)
      = val_main_v58 (F := Ideal) x0 x1 x2 x3 x4 (ix4 0 ⟨l.val / 64, by omega⟩ r ⟨l.val % 64, by omega⟩) := by
  unfold val_main_v60 val_main_v59
  pointwise

end Cert.Proof.RefAttn
-- ==== Proof.Head.lean ====
/- One head of the attention call on a block of rows: the bisection loop and the payload it feeds, read at an index, are the kernel's row. -/
module

public import proofs.«01_k».proof.Proof.Gen.KernelIdeal.Frame
public import Idealize.ShloMosaic.Lib.Pipeline.ValueKit
public import proofs.«01_k».proof.Proof.Math

@[expose] public section

set_option maxRecDepth 16384

noncomputable section

open Idealize.ShloMosaic Idealize.ShloMosaic.TcCoe Idealize.SL.Sem
open Idealize.ShloMosaic.Pipeline (Dat)

namespace Cert.Proof.Attn

open Cert.KernelIdeal Cert.KernelIdeal.Gen

open Cert.Proof.Row (krow many)

theorem bits_half : Ideal.ofBits .f32 0x3F000000#32 = ((1 / 2 : ℝ) : EReal) := by
  simp [Ideal.ofBits, Ideal.ieee, -EReal.coe_mul]; norm_num
theorem bits_1024 : Ideal.ofBits .f32 0x44800000#32 = ((1024 : ℝ) : EReal) := by
  simp [Ideal.ofBits, Ideal.ieee, -EReal.coe_mul]; norm_num
theorem bits_inv1024 : Ideal.ofBits .f32 0x3A800000#32 = ((1 / 1024 : ℝ) : EReal) := by
  simp [Ideal.ofBits, Ideal.ieee, -EReal.coe_mul]; norm_num

/-- The constant named `log2_e` is `1 / ln 2`. -/
theorem named_lg : (Named.named (F := Ideal) (φ := .f32) κ "log2_e" 0x3FB8AA3B#32 : EReal) = Row.lg := rfl

/-- A comparison's bit, widened and converted, is one or nothing. -/
theorem flag (p : Prop) [Decidable p] :
    (FloatOps.sitofp (F := Ideal) .f32 (BitVec.setWidth 32 (BitVec.ofBool (decide p))) : EReal) = if p then 1 else 0 := by
  by_cases h : p
  · simp only [h, decide_true, if_true]
    show (((BitVec.setWidth 32 (BitVec.ofBool true)).toInt : ℝ) : EReal) = 1
    have : (BitVec.setWidth 32 (BitVec.ofBool true)).toInt = 1 := by decide
    rw [this]; simp
  · simp only [h, decide_false, if_false]
    show (((BitVec.setWidth 32 (BitVec.ofBool false)).toInt : ℝ) : EReal) = 0
    have : (BitVec.setWidth 32 (BitVec.ofBool false)).toInt = 0 := by decide
    rw [this]; simp

/-- Counting by adding ones. -/
theorem count (e : Fin 2048 → EReal) (x : EReal) :
    (((1024 : ℝ) : EReal) ≤ ∑ t, if x < e t then (1 : EReal) else 0) ↔ many e x := by
  have h : (∑ t, if x < e t then (1 : EReal) else 0) = (((Finset.univ.filter fun t => x < e t).card : ℝ) : EReal) := by
    have h1 : (∑ t, if x < e t then (1 : EReal) else 0) = ∑ t, (((if x < e t then 1 else 0 : ℝ)) : EReal) :=
      Finset.sum_congr rfl fun t _ => by split_ifs <;> simp
    rw [h1, Row.sum_coe]
    congr 1
    rw [Finset.sum_ite, Finset.sum_const_zero, add_zero, Finset.sum_const, nsmul_eq_mul, mul_one]
  rw [h, EReal.coe_le_coe_iff]
  unfold many
  exact_mod_cast Iff.rfl

/-- A loop of two trips that read nothing of the trip number. -/
theorem fold_two {σ : Type} {n : ℕ} (hn : n = 2) (g : σ → σ) (init : σ) :
    Scf.fold (n := n) (fun _ a => g a) init = g (g init) := by
  subst hn
  rw [Scf.fold_eq]
  rfl

theorem e_at (v0 : Vec Ideal S1024x64 .bf16) (v2 : Vec Ideal S2048x64 .bf16) (p : Fin 1024) (t : Fin 2048) :
    k1_pay10 v0 v2 (ix2 p t) = Ideal.exp2 (∑ d : Fin 64, (v0 (ix2 p d) : EReal) * v2 (ix2 t d)) := by
  pointwise [k1_pay10]
  rfl

theorem z_at (v0 : Vec Ideal S1024x64 .bf16) (v2 : Vec Ideal S2048x64 .bf16) (p : Fin 1024) :
    k1_pay11 v0 v2 (ix2 p 0) = ∑ t : Fin 2048, (k1_pay10 v0 v2 (ix2 p t) : EReal) := by
  pointwise [k1_pay11]

theorem lo0_at (p : Fin 1024) : (k1_pay12 (F := Ideal) (ix2 p 0) : EReal) = 0 := by
  pointwise [k1_pay12]

theorem hi0_at (v0 : Vec Ideal S1024x64 .bf16) (v2 : Vec Ideal S2048x64 .bf16) (p : Fin 1024) :
    k1_pay13 v0 v2 (ix2 p 0) = (∑ t : Fin 2048, (k1_pay10 v0 v2 (ix2 p t) : EReal)) * ((1 / 1024 : ℝ) : EReal) := by
  rw [← z_at, ← bits_inv1024]
  pointwise [k1_pay13]

open Classical in
theorem step_at (v0 : Vec Ideal S1024x64 .bf16) (v2 : Vec Ideal S2048x64 .bf16) (lo hi : FVec Ideal S1024x1 .f32) (p : Fin 1024) :
    (((k1_pay16 v0 v2 lo hi (ix2 p 0) : EReal), (k1_pay17 v0 v2 lo hi (ix2 p 0) : EReal)))
      = Row.step (fun t => k1_pay10 v0 v2 (ix2 p t)) (lo (ix2 p 0), hi (ix2 p 0)) := by
  rw [Row.step_at _ _ _ _ rfl, ← bits_half]
  have h := count (fun t => k1_pay10 v0 v2 (ix2 p t)) (Ideal.ofBits .f32 0x3F000000#32 * (lo (ix2 p 0) + hi (ix2 p 0)))
  rw [← bits_1024] at h
  refine Prod.ext ?_ ?_
  · pointwise [k1_pay16, k1_pay15, k1_pay14]
    simp only [flag]
    refine (if_congr h rfl rfl).trans ?_
    rfl
  · pointwise [k1_pay17, k1_pay15, k1_pay14]
    simp only [flag]
    refine (if_congr h rfl rfl).trans ?_
    rfl

/-- The loop's low end: the cut of the row. -/
theorem lo_at (v0 : Vec Ideal S1024x64 .bf16) (v2 : Vec Ideal S2048x64 .bf16) (p : Fin 1024) :
    ((Scf.fold (n := k1_t1_loop.trips) (fun _ a => (k1_pay16 v0 v2 a.1 a.2, k1_pay17 v0 v2 a.1 a.2))
        (k1_pay12 (F := Ideal), k1_pay13 v0 v2)).1 (ix2 p 0) : EReal)
      = Row.cut (fun t => k1_pay10 v0 v2 (ix2 p t)) (∑ t : Fin 2048, (k1_pay10 v0 v2 (ix2 p t) : EReal)) := by
  rw [fold_two (by decide) (fun a : FVec Ideal S1024x1 .f32 × FVec Ideal S1024x1 .f32 =>
    (k1_pay16 v0 v2 a.1 a.2, k1_pay17 v0 v2 a.1 a.2))]
  have h1 := step_at v0 v2 (k1_pay12 (F := Ideal)) (k1_pay13 v0 v2) p
  have h2 := step_at v0 v2 (k1_pay16 v0 v2 (k1_pay12 (F := Ideal)) (k1_pay13 v0 v2))
    (k1_pay17 v0 v2 (k1_pay12 (F := Ideal)) (k1_pay13 v0 v2)) p
  rw [h1, lo0_at, hi0_at] at h2
  exact congrArg Prod.fst h2

/-- What the head stores, at a row and a lane, over any cut. -/
theorem out_at (v0 : Vec Ideal S1024x64 .bf16) (v2 v4 : Vec Ideal S2048x64 .bf16) (lo : FVec Ideal S1024x1 .f32) (p : Fin 1024)
    (d : Fin 64) :
    k1_pay18 v0 v2 v4 lo (ix2 p d)
      = Ideal.div (∑ t : Fin 2048, (if (lo (ix2 p 0) : EReal) < k1_pay10 v0 v2 (ix2 p t)
            then Ideal.exp2 (k1_pay10 v0 v2 (ix2 p t) * Ideal.div Row.lg (k1_pay11 v0 v2 (ix2 p 0))) else 1) * v4 (ix2 t d))
          (∑ t : Fin 2048, if (lo (ix2 p 0) : EReal) < k1_pay10 v0 v2 (ix2 p t)
            then Ideal.exp2 (k1_pay10 v0 v2 (ix2 p t) * Ideal.div Row.lg (k1_pay11 v0 v2 (ix2 p 0))) else 1) := by
  rw [← named_lg]
  pointwise [k1_pay18]
  rfl

/-- The head's stored block is the kernel's row of the scores, row by row and lane by lane. -/
theorem head_at (v0 : Vec Ideal S1024x64 .bf16) (v2 v4 : Vec Ideal S2048x64 .bf16) (p : Fin 1024) (d : Fin 64) :
    k1_pay18 v0 v2 v4 (Scf.fold (n := k1_t1_loop.trips) (fun _ a => (k1_pay16 v0 v2 a.1 a.2, k1_pay17 v0 v2 a.1 a.2))
        (k1_pay12 (F := Ideal), k1_pay13 v0 v2)).1 (ix2 p d)
      = krow (fun t => Ideal.exp2 (∑ k : Fin 64, (v0 (ix2 p k) : EReal) * v2 (ix2 t k))) (fun t => v4 (ix2 t d)) := by
  rw [out_at, lo_at, z_at]
  simp only [e_at]
  rfl

/-- The second head's payloads are the first's. -/
theorem second_head (v0 : Vec Ideal S1024x64 .bf16) (v2 v4 : Vec Ideal S2048x64 .bf16) :
    k1_pay9 (k1_pay19 v0) v2 v4 (Scf.fold (n := k1_t2_loop.trips)
        (fun _ a => (k1_pay7 (k1_pay19 v0) v2 a.1 a.2, k1_pay8 (k1_pay19 v0) v2 a.1 a.2))
        (k1_pay3 (F := Ideal), k1_pay4 (k1_pay19 v0) v2)).1
      = k1_pay18 v0 v2 v4 (Scf.fold (n := k1_t1_loop.trips) (fun _ a => (k1_pay16 v0 v2 a.1 a.2, k1_pay17 v0 v2 a.1 a.2))
        (k1_pay12 (F := Ideal), k1_pay13 v0 v2)).1 := rfl

end Cert.Proof.Attn
-- ==== Proof.Attn.lean ====
/- The attention call: what it leaves in its result array, as a formula over the fused projection it reads. -/
module

public import proofs.«01_k».proof.Proof.Gen.KernelIdeal.Frame
public import Idealize.ShloMosaic.Lib.Pipeline.ValueKit
public import proofs.«01_k».proof.Proof.Head

@[expose] public section

set_option maxRecDepth 16384

noncomputable section

open Idealize.ShloMosaic Idealize.ShloMosaic.TcCoe Idealize.SL.Sem
open Idealize.ShloMosaic.Pipeline (Dat)

namespace Cert.Proof.Attn

open Cert.KernelIdeal Cert.KernelIdeal.Gen

variable (V : (c : Dev nD) → (b : Ref sig .tc) → Buf (Elt Ideal) ((c : Thread nD τ).loc b))

open Cert.Proof.Row (krow)

/-- Attention over the fused projection `Q` (queries, keys, values side by side): row `r`, lane `l` of the result is head
    `l / 64`'s row of scores against lane `l` of the values. -/
def attnAt (Q : FVec Ideal S2048x3072 .bf16) (r : Fin 2048) (l : Fin 1024) : EReal :=
  krow (fun t => Ideal.exp2 (∑ k : Fin 64, (Q (ix2 r ⟨l.val / 64 * 64 + k.val, by omega⟩) : EReal)
      * Q (ix2 t ⟨1024 + (l.val / 64 * 64 + k.val), by omega⟩)))
    (fun t => Q (ix2 t ⟨2048 + l.val, by omega⟩))

def attn (Q : FVec Ideal S2048x3072 .bf16) : FVec Ideal S2048x1024 .f32 := fun i => attnAt Q (i 0) (i 1)

/-- The block every window is on, at every grid point. -/
theorem blocks : ∀ t : Fin cfg1.N, win1_0.index t = ![t.val % 2, t.val / 2] ∧ win1_1.index t = ![0, 8 + t.val / 2]
    ∧ win1_2.index t = ![0, 16 + t.val / 2] ∧ win1_3.index t = ![t.val % 2, t.val / 2] :=
  (by decide +kernel : ∀ t : Fin grid1.N, _)

theorem point (c : Dev nD) (t : Fin cfg1.N) (y0 : Fin 1024) (y1 : Fin 128) (r : Fin 2048) (l : Fin 1024)
    (hr : (r : ℕ) = t.val % 2 * 1024 + y0) (hl : (l : ℕ) = t.val / 2 * 128 + y1) :
    outsAt1 V c t (ix2 y0 y1) = attnAt (V c main_v13) r l := by
  unfold outsAt1; frame_out
  have ht : t.val < 16 := lt_of_lt_of_eq t.isLt N_1
  canon_tiles x h
  · idx_vars x
    rw [second_head]
    have hl' : l.val / 64 * 64 = t.val / 2 * 128 + 64 := by omega
    refine (head_at _ _ _ x0 x1).trans ?_
    unfold attnAt
    refine congrArg₂ krow (funext fun u => congrArg Ideal.exp2 (Finset.sum_congr rfl fun k _ =>
      congrArg₂ (fun a b : EReal => a * b) ?_ ?_)) (funext fun u => ?_)
    all_goals (pointwise [iblk1]; blk_point [iblk1, blocks t])
  · idx_vars x
    have hl' : l.val / 64 * 64 = t.val / 2 * 128 := by omega
    refine (head_at _ _ _ x0 x1).trans ?_
    unfold attnAt
    refine congrArg₂ krow (funext fun u => congrArg Ideal.exp2 (Finset.sum_congr rfl fun k _ =>
      congrArg₂ (fun a b : EReal => a * b) ?_ ?_)) (funext fun u => ?_)
    all_goals (pointwise [iblk1]; blk_point [iblk1, blocks t])

/-- What the attention call leaves in its result array. -/
theorem final (c : Dev nD) : (dat1 V c).arrAt 3 cfg1.N = attn (V c main_v13) := by
  refine (dat1 V c).arrAt_eq_of_covers 3 _ (by decide +kernel) fun t hf y => ?_
  blk_simp
  rw [after1_3]
  have ht : t.val < 16 := lt_of_lt_of_eq t.isLt N_1
  idx_vars y
  refine (point V c t y0 y1 ⟨t.val % 2 * 1024 + y0.val, by omega⟩ ⟨t.val / 2 * 128 + y1.val, by omega⟩ rfl rfl).trans ?_
  show attn (V c main_v13) (ix2 _ _) = _
  refine congrArg (attn (V c main_v13)) ?_
  blk_ext [blocks t]

end Cert.Proof.Attn
-- ==== Proof.Entry.lean ====
/- The arrays the host lines make between the calls, read at an index. -/
module

public import proofs.«01_k».proof.Proof.Gen.KernelIdeal.Frame
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Proof.Entry

open Cert.KernelIdeal Cert.KernelIdeal.Gen

variable (m : (ℓ : Loc nD τ sig) → Buf (Elt Ideal) ℓ) (ρ : Dev nD → PrngReg) (c : Dev nD)

/-- The factor the host multiplies the query weights and bias by: `1 / (log 2 * 8)`. -/
def scl : EReal := Ideal.div 1 (Ideal.log (Ideal.ofBits .f32 0x40000000#32) * Ideal.ofBits .f32 0x41000000#32)

/-- The stacked weights: the scaled query rows, then the key and value rows. -/
def wcat (A : FVec Ideal S1024x1024 .f32) (B : FVec Ideal S2048x1024 .f32) (j : Fin 3072) (k : Fin 1024) : EReal :=
  if h : j.val < 1024 then A (ix2 ⟨j.val, h⟩ k) * scl else B (ix2 ⟨j.val - 1024, by omega⟩ k)

/-- The stacked biases. -/
def bcat (A : FVec Ideal S1024 .f32) (B : FVec Ideal S2048 .f32) (j : Fin 3072) : EReal :=
  if h : j.val < 1024 then A (ix1 ⟨j.val, h⟩) * scl else B (ix1 ⟨j.val - 1024, by omega⟩)

theorem v0_at (r : Fin 2048) (k : Fin 1024) :
    V1 m ρ c main_v0 (ix2 r k) = m ((c : Thread nD τ).loc main_arg0) (ix3 0 r k) := by
  show StableHlo.after hostOps0 (W0 m ρ c) _ _ = _
  entry_read
  pointwise

theorem v1_at (r : Fin 2048) (k : Fin 1024) :
    V1 m ρ c main_v1 (ix2 r k) = m ((c : Thread nD τ).loc main_arg0) (ix3 0 r k) := by
  show StableHlo.after hostOps0 (W0 m ρ c) _ _ = _
  entry_read
  pointwise

theorem v8_at (j : Fin 3072) (k : Fin 1024) :
    V1 m ρ c main_v8 (ix2 j k) = wcat (m ((c : Thread nD τ).loc main_arg1)) (m ((c : Thread nD τ).loc main_arg3)) j k := by
  show StableHlo.after hostOps0 (W0 m ρ c) _ _ = _
  entry_read
  pointwise [wcat, scl]

theorem v12_at (j : Fin 3072) :
    V1 m ρ c main_v12 (ix2 0 j) = bcat (m ((c : Thread nD τ).loc main_arg2)) (m ((c : Thread nD τ).loc main_arg4)) j := by
  show StableHlo.after hostOps0 (W0 m ρ c) _ _ = _
  entry_read
  pointwise [bcat, scl]

/-- An argument as the third call finds it. -/
theorem arg_W3 (a : Ref sig .tc) (h : a ∈ argRefs) : W3 m ρ c (Proc.devRef .tc a) = m ((c : Thread nD τ).loc a) := W3_args m ρ c a h

theorem v15_at (j k : Fin 1024) :
    V4 m ρ c main_v15 (ix2 j k) = m ((c : Thread nD τ).loc main_arg5) (ix2 j k) := by
  show StableHlo.after hostOps2 (W3 m ρ c) _ _ = _
  entry_read
  rw [arg_W3 m ρ c main_arg5 (by decide)]
  pointwise

theorem v16_at (j : Fin 1024) :
    V4 m ρ c main_v16 (ix2 0 j) = m ((c : Thread nD τ).loc main_arg6) (ix1 j) := by
  show StableHlo.after hostOps2 (W3 m ρ c) _ _ = _
  entry_read
  rw [arg_W3 m ρ c main_arg6 (by decide)]
  pointwise

theorem v17_at (j : Fin 1024) :
    V4 m ρ c main_v17 (ix2 0 j) = m ((c : Thread nD τ).loc main_arg7) (ix1 j) := by
  show StableHlo.after hostOps2 (W3 m ρ c) _ _ = _
  entry_read
  rw [arg_W3 m ρ c main_arg7 (by decide)]
  pointwise

theorem v18_at (j : Fin 2816) (k : Fin 1024) :
    V4 m ρ c main_v18 (ix2 j k) = m ((c : Thread nD τ).loc main_arg8) (ix2 j k) := by
  show StableHlo.after hostOps2 (W3 m ρ c) _ _ = _
  entry_read
  rw [arg_W3 m ρ c main_arg8 (by decide)]
  pointwise

theorem v19_at (j : Fin 2816) (k : Fin 1024) :
    V4 m ρ c main_v19 (ix2 j k) = m ((c : Thread nD τ).loc main_arg9) (ix2 j k) := by
  show StableHlo.after hostOps2 (W3 m ρ c) _ _ = _
  entry_read
  rw [arg_W3 m ρ c main_arg9 (by decide)]
  pointwise

theorem v20_at (j : Fin 1024) (k : Fin 2816) :
    V4 m ρ c main_v20 (ix2 j k) = m ((c : Thread nD τ).loc main_arg10) (ix2 j k) := by
  show StableHlo.after hostOps2 (W3 m ρ c) _ _ = _
  entry_read
  rw [arg_W3 m ρ c main_arg10 (by decide)]
  pointwise

theorem v22_at (j : Fin 1024) :
    V6 m ρ c main_v22 (ix2 0 j) = m ((c : Thread nD τ).loc main_arg11) (ix1 j) := by
  show StableHlo.after hostOps3 (W5 m ρ c) _ _ = _
  entry_read
  rw [W5_args m ρ c main_arg11 (by decide)]
  pointwise

theorem v23_at (j : Fin 1024) :
    V6 m ρ c main_v23 (ix2 0 j) = m ((c : Thread nD τ).loc main_arg12) (ix1 j) := by
  show StableHlo.after hostOps3 (W5 m ρ c) _ _ = _
  entry_read
  rw [W5_args m ρ c main_arg12 (by decide)]
  pointwise

/-- The result is the last call's array under another shape. -/
theorem v25_at (a : Fin 1) (r : Fin 2048) (d : Fin 1024) :
    W8 m ρ c (Proc.devRef .tc main_v25) (ix3 a r d) = W7 m ρ c (Proc.devRef .tc main_v24) (ix2 r d) := by
  show StableHlo.after hostOps4 (W7 m ρ c) _ _ = _
  entry_read
  pointwise

end Cert.Proof.Entry
-- ==== Proof.Proj.lean ====
module

public import proofs.«01_k».proof.Proof.Gen.KernelIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Proof.Proj

open Cert.KernelIdeal Cert.KernelIdeal.Gen

variable (V : (c : Dev nD) → (b : Ref sig .tc) → Buf (Elt Ideal) ((c : Thread nD τ).loc b))

/-- The fused q/k/v projection: every row of the input against every row of the stacked weights, plus the bias. -/
def qkv (X : FVec Ideal S2048x1024 .bf16) (W : FVec Ideal S3072x1024 .bf16) (b : FVec Ideal S1x3072 .f32) :
    FVec Ideal S2048x3072 .bf16 :=
  fun i => (∑ k : Fin 1024, (X (ix2 (i 0) k) : EReal) * W (ix2 (i 1) k)) + b (ix2 0 (i 1))

/-- The block every window is on, at every grid point. -/
theorem blocks : ∀ t : Fin cfg0.N, win0_0.index t = ![t.val / 4, 0] ∧ win0_1.index t = ![t.val % 4, 0]
    ∧ win0_2.index t = ![0, t.val % 4] ∧ win0_3.index t = ![t.val / 4, t.val % 4] :=
  (by decide +kernel : ∀ t : Fin grid0.N, _)

theorem point (c : Dev nD) (t : Fin cfg0.N) (y) :
    k0_pay1 (F := Ideal) (iblk0 V c 0 t) (iblk0 V c 1 t) (iblk0 V c 2 t) y
      = qkv (V c main_v1) (V c main_v8) (V c main_v12) (((cfg0.win 3).blk t).view.emb y) := by
  pointwise [k0_pay1, qkv]
  blk_point [iblk0, blocks t]

/-- What the projection call leaves in its result array. -/
theorem final (c : Dev nD) :
    (dat0 V c).arrAt 3 cfg0.N = qkv (V c main_v1) (V c main_v8) (V c main_v12) := by
  refine (dat0 V c).arrAt_eq_of_covers 3 _ (by decide +kernel) fun t hf y => ?_
  blk_simp
  rw [after0_3]; frame_out
  exact point V c t y

end Cert.Proof.Proj
-- ==== Proof.AttnEq.lean ====
/- The kernel's attention over the fused projection is the reference's: the factor moved onto the query side comes back as the
   division by 8 and the change of exponential base, and each row is the row identity of Math.lean. -/
module

public import proofs.«01_k».proof.Proof.RefAttn
public import proofs.«01_k».proof.Proof.Attn
public import proofs.«01_k».proof.Proof.Entry
public import proofs.«01_k».proof.Proof.Proj

@[expose] public section

set_option maxRecDepth 16384

noncomputable section

open Idealize.ShloMosaic Idealize.ShloMosaic.TcCoe Idealize.SL.Sem
open Idealize.ShloMosaic.Pipeline (Dat)

namespace Cert.Proof.AttnEq

open Cert.KernelIdeal Cert.Proof.RefAttn Cert.Proof.Row Cert.Proof.Entry Cert.Proof.Attn Cert.Proof.Proj

/-- The host's factor as a real. -/
def sg : ℝ := 1 / (Real.log 2 * 8)

theorem sg_pos : 0 < sg := by
  unfold sg
  have := Real.log_pos (by norm_num : (1 : ℝ) < 2)
  positivity

theorem word_two : Ideal.ofBits .f32 0x40000000#32 = ((2 : ℝ) : EReal) := by
  simp [Ideal.ofBits, Ideal.ieee, -EReal.coe_mul]; norm_num

theorem word_eight : Ideal.ofBits .f32 0x41000000#32 = ((8 : ℝ) : EReal) := by
  simp [Ideal.ofBits, Ideal.ieee, -EReal.coe_mul]; norm_num

theorem scl_eq : scl = ((sg : ℝ) : EReal) := by
  have h2 := Real.log_pos (by norm_num : (1 : ℝ) < 2)
  unfold scl sg
  rw [word_two, word_eight]
  have hl : Ideal.log ((2 : ℝ) : EReal) = ((Real.log 2 : ℝ) : EReal) := by
    show (if (2 : ℝ) ≤ 0 then (⊥ : EReal) else ((Real.log 2 : ℝ) : EReal)) = _
    rw [if_neg (by norm_num)]
  rw [hl, ← EReal.coe_mul, Ideal.div_coe (by positivity), one_mul]

/-- Scaling weights and bias scales the projection. -/
theorem scaled_sum {n : ℕ} (x w : Fin n → EReal) (b : EReal) :
    (∑ k, x k * (w k * ((sg : ℝ) : EReal))) + b * ((sg : ℝ) : EReal) = ((sg : ℝ) : EReal) * ((∑ k, x k * w k) + b) := by
  rw [EReal.left_distrib_of_nonneg_of_ne_top (by exact_mod_cast sg_pos.le) (EReal.coe_ne_top _), mul_sum_real _ _ sg_pos.le, mul_comm b]
  refine congrArg (· + _) (Finset.sum_congr rfl fun k _ => ?_)
  rw [← mul_assoc, mul_comm]

/-- The base-two exponential of the scaled score is the exponential of the score over 8. -/
theorem exp2_scaled (S : EReal) : Ideal.exp2 (((sg : ℝ) : EReal) * S) = Ideal.exp (Ideal.div S (Ideal.ofBits .f32 0x41000000#32)) := by
  rw [word_eight, Ideal.div_coe (by norm_num)]
  have h2 := Real.log_pos (by norm_num : (1 : ℝ) < 2)
  induction S using EReal.rec with
  | bot =>
    rw [EReal.coe_mul_bot_of_pos sg_pos, EReal.bot_mul_coe_of_pos (by norm_num)]
    rfl
  | top =>
    rw [EReal.coe_mul_top_of_pos sg_pos, EReal.top_mul_coe_of_pos (by norm_num)]
    rfl
  | coe r =>
    rw [← EReal.coe_mul, ← EReal.coe_mul]
    show ((Real.rpow 2 (sg * r) : ℝ) : EReal) = ((Real.exp (r * (1 / 8)) : ℝ) : EReal)
    have : Real.rpow 2 (sg * r) = Real.exp (Real.log 2 * (sg * r)) := Real.rpow_def_of_pos (by norm_num) _
    rw [this]
    refine congrArg (fun y : ℝ => ((Real.exp y : ℝ) : EReal)) ?_
    unfold sg
    field_simp

variable (x0 : FVec Ideal S1x2048x1024 .f32) (x1 : FVec Ideal S1024x1024 .f32) (x2 : FVec Ideal S1024 .f32)
  (x3 : FVec Ideal S2048x1024 .f32) (x4 : FVec Ideal S2048 .f32)
  (Q : FVec Ideal S2048x3072 .bf16)

/-- What the fused projection is, from the arguments. -/
def IsQkv : Prop := ∀ (r : Fin 2048) (j : Fin 3072), (Q (ix2 r j) : EReal) = (∑ k : Fin 1024, (x0 (ix3 0 r k) : EReal) * wcat x1 x3 j k) + bcat x2 x4 j

variable {x0 x1 x2 x3 x4 Q} (hQ : IsQkv x0 x1 x2 x3 x4 Q)
include hQ

theorem q_at (r : Fin 2048) (j : Fin 3072) (h : j.val < 1024) : (Q (ix2 r j) : EReal) = ((sg : ℝ) : EReal) * ql x0 x1 x2 r ⟨j.val, h⟩ := by
  rw [hQ r j]
  unfold wcat bcat ql
  simp only [dif_pos h, scl_eq]
  exact scaled_sum _ _ _

theorem kv_at (r : Fin 2048) (j : Fin 3072) (i : Fin 2048) (h : j.val = 1024 + i.val) : (Q (ix2 r j) : EReal) = kvl x0 x3 x4 r i := by
  have hn : ¬ j.val < 1024 := by omega
  have hi : (⟨j.val - 1024, by omega⟩ : Fin 2048) = i := Fin.ext (by show j.val - 1024 = i.val; omega)
  rw [hQ r j]
  unfold wcat bcat kvl
  simp only [dif_neg hn, hi]

theorem attn_eq (r : Fin 2048) (l : Fin 1024) :
    attnAt Q r l = Cert.ReferenceIdeal.Read.val_main_v60 (F := Ideal) x0 x1 x2 x3 x4 (ix3 0 r l) := by
  rw [v60_at, v58_at]
  refine Eq.trans ?_ (row_eq _ _ _ _ _ (mx_le x0 x1 x2 x3 x4 _ r) (mx_att x0 x1 x2 x3 x4 _ r) (kth_iff x0 x1 x2 x3 x4 _ r) (mx2_att x0 x1 x2 x3 x4 _ r))
  unfold attnAt
  refine congrArg₂ krow (funext fun t => ?_) (funext fun t => ?_)
  · rw [sc_eq, ← exp2_scaled, mul_sum_real _ _ sg_pos.le]
    refine congrArg Ideal.exp2 (Finset.sum_congr rfl fun k _ => ?_)
    rw [q_at hQ r _ (by show l.val / 64 * 64 + k.val < 1024; omega), kv_at hQ t _ ⟨l.val / 64 * 64 + k.val, by omega⟩ rfl, mul_assoc]
  · refine kv_at hQ t _ _ ?_
    show 2048 + l.val = 1024 + (1024 + l.val / 64 * 64 + l.val % 64)
    omega

end Cert.Proof.AttnEq
-- ==== Proof.Mlp.lean ====
/- The output projection, residual, root-mean-square norm and gated feed-forward call: what it leaves in its result array, as a formula over the arrays it reads. -/
module

public import proofs.«01_k».proof.Proof.Gen.KernelIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Proof.Mlp

open Cert.KernelIdeal Cert.KernelIdeal.Gen

variable (V : (c : Dev nD) → (b : Ref sig .tc) → Buf (Elt Ideal) ((c : Thread nD τ).loc b))

/-- The hidden row before its norm: attention through the output projection, its bias, the residual. -/
def res (A : FVec Ideal S2048x1024 .f32) (X : FVec Ideal S2048x1024 .f32) (Wo : FVec Ideal S1024x1024 .bf16)
    (bo : FVec Ideal S1x1024 .f32) (r : Fin 2048) (d : Fin 1024) : EReal :=
  (∑ k : Fin 1024, (A (ix2 r k) : EReal) * Wo (ix2 d k)) + bo (ix2 0 d) + X (ix2 r d)

/-- The hidden row over its root mean square (plus 1e-6), scaled. -/
def hid (A : FVec Ideal S2048x1024 .f32) (X : FVec Ideal S2048x1024 .f32) (Wo : FVec Ideal S1024x1024 .bf16)
    (bo rms : FVec Ideal S1x1024 .f32) (r : Fin 2048) (d : Fin 1024) : EReal :=
  res A X Wo bo r d
    * Ideal.rsqrt (Ideal.div (∑ k : Fin 1024, res A X Wo bo r k * res A X Wo bo r k) (Ideal.ofBits .f32 0x44800000#32)
        + Ideal.ofBits .f32 0x358637BD#32) * rms (ix2 0 d)

/-- The gated feed-forward unit `j` of a row: `sigmoid z1 * z1 * z2`. -/
def gate (H : Fin 2048 → Fin 1024 → EReal) (l1 l2 : FVec Ideal S2816x1024 .bf16) (r : Fin 2048) (j : Fin 2816) : EReal :=
  Ideal.logistic (∑ k : Fin 1024, H r k * l1 (ix2 j k)) * (∑ k : Fin 1024, H r k * l1 (ix2 j k))
    * (∑ k : Fin 1024, H r k * l2 (ix2 j k))

/-- The call's result: the normed row plus its feed-forward. -/
def mlp (A : FVec Ideal S2048x1024 .f32) (X : FVec Ideal S2048x1024 .f32) (Wo : FVec Ideal S1024x1024 .bf16)
    (bo rms : FVec Ideal S1x1024 .f32) (l1 l2 : FVec Ideal S2816x1024 .bf16) (l3 : FVec Ideal S1024x2816 .bf16) :
    FVec Ideal S2048x1024 .f32 := fun i =>
  hid A X Wo bo rms (i 0) (i 1) + ∑ j : Fin 2816, gate (hid A X Wo bo rms) l1 l2 (i 0) j * l3 (ix2 (i 1) j)

/-- The block every window is on, at every grid point. -/
theorem blocks : ∀ t : Fin cfg2.N, win2_0.index t = ![t.val, 0] ∧ win2_1.index t = ![t.val, 0]
    ∧ win2_2.index t = ![0, 0] ∧ win2_3.index t = ![0, 0] ∧ win2_4.index t = ![0, 0] ∧ win2_5.index t = ![0, 0]
    ∧ win2_6.index t = ![0, 0] ∧ win2_7.index t = ![0, 0] ∧ win2_8.index t = ![t.val, 0] :=
  (by decide +kernel : ∀ t : Fin grid2.N, _)

/-- The normed hidden rows of a block. -/
theorem hid_at (c : Dev nD) (t : Fin cfg2.N) (p : Fin 512) (d : Fin 1024) (r : Fin 2048) (hr : (r : ℕ) = t.val * 512 + p) :
    k2_pay2 (F := Ideal) (iblk2 V c 0 t) (iblk2 V c 2 t) (iblk2 V c 3 t) (iblk2 V c 1 t) (iblk2 V c 4 t) (ix2 p d)
      = hid (V c main_v14) (V c main_v0) (V c main_v15) (V c main_v16) (V c main_v17) r d := by
  pointwise [k2_pay2, hid, res]
  blk_point [iblk2, blocks t]

/-- The gate of a block, over its hidden rows. -/
theorem gate_at (v0 : Vec Ideal S512x1024 .f32) (v3 : Vec Ideal S1024x1024 .bf16) (v6 : Vec Ideal S1x1024 .f32)
    (v10 : Vec Ideal S512x1024 .f32) (v23 : Vec Ideal S1x1024 .f32) (v28 v31 : Vec Ideal S2816x1024 .bf16)
    (p : Fin 512) (j : Fin 2816) :
    k2_pay3 v0 v3 v6 v10 v23 v28 v31 (ix2 p j)
      = Ideal.logistic (∑ k : Fin 1024, (k2_pay2 v0 v3 v6 v10 v23 (ix2 p k) : EReal) * v28 (ix2 j k))
        * (∑ k : Fin 1024, (k2_pay2 v0 v3 v6 v10 v23 (ix2 p k) : EReal) * v28 (ix2 j k))
        * (∑ k : Fin 1024, (k2_pay2 v0 v3 v6 v10 v23 (ix2 p k) : EReal) * v31 (ix2 j k)) := by
  pointwise [k2_pay3]

theorem out_at (v26 : FVec Ideal S512x1024 .f32) (v37 : FVec Ideal S512x2816 .bf16) (v38 : Vec Ideal S1024x2816 .bf16)
    (p : Fin 512) (d : Fin 1024) :
    k2_pay1 v26 v37 v38 (ix2 p d) = (v26 (ix2 p d) : EReal) + ∑ j : Fin 2816, (v37 (ix2 p j) : EReal) * v38 (ix2 d j) := by
  pointwise [k2_pay1]

/-- The three feed-forward weights are read whole at every point. -/
theorem read5 (c : Dev nD) (t : Fin cfg2.N) (j : Fin 2816) (k : Fin 1024) :
    (iblk2 V c 5 t : Vec Ideal S2816x1024 .bf16) (ix2 j k) = (V c main_v18 : FVec Ideal S2816x1024 .bf16) (ix2 j k) := by
  blk_point [iblk2, blocks t]
theorem read6 (c : Dev nD) (t : Fin cfg2.N) (j : Fin 2816) (k : Fin 1024) :
    (iblk2 V c 6 t : Vec Ideal S2816x1024 .bf16) (ix2 j k) = (V c main_v19 : FVec Ideal S2816x1024 .bf16) (ix2 j k) := by
  blk_point [iblk2, blocks t]
theorem read7 (c : Dev nD) (t : Fin cfg2.N) (d : Fin 1024) (j : Fin 2816) :
    (iblk2 V c 7 t : Vec Ideal S1024x2816 .bf16) (ix2 d j) = (V c main_v20 : FVec Ideal S1024x2816 .bf16) (ix2 d j) := by
  blk_point [iblk2, blocks t]

theorem gate_eq (c : Dev nD) (t : Fin cfg2.N) (p : Fin 512) (j : Fin 2816) (r : Fin 2048) (hr : (r : ℕ) = t.val * 512 + p) :
    k2_pay3 (F := Ideal) (iblk2 V c 0 t) (iblk2 V c 2 t) (iblk2 V c 3 t) (iblk2 V c 1 t) (iblk2 V c 4 t) (iblk2 V c 5 t)
        (iblk2 V c 6 t) (ix2 p j)
      = gate (hid (V c main_v14) (V c main_v0) (V c main_v15) (V c main_v16) (V c main_v17)) (V c main_v18) (V c main_v19) r j := by
  refine (gate_at _ _ _ _ _ _ _ p j).trans ?_
  have h1 : (∑ k : Fin 1024, (k2_pay2 (F := Ideal) (iblk2 V c 0 t) (iblk2 V c 2 t) (iblk2 V c 3 t) (iblk2 V c 1 t) (iblk2 V c 4 t) (ix2 p k) : EReal)
        * (iblk2 V c 5 t : Vec Ideal S2816x1024 .bf16) (ix2 j k))
      = ∑ k : Fin 1024, hid (V c main_v14) (V c main_v0) (V c main_v15) (V c main_v16) (V c main_v17) r k
        * (V c main_v18 : FVec Ideal S2816x1024 .bf16) (ix2 j k) :=
    Finset.sum_congr rfl fun k _ => by rw [hid_at V c t p k r hr, read5]
  have h2 : (∑ k : Fin 1024, (k2_pay2 (F := Ideal) (iblk2 V c 0 t) (iblk2 V c 2 t) (iblk2 V c 3 t) (iblk2 V c 1 t) (iblk2 V c 4 t) (ix2 p k) : EReal)
        * (iblk2 V c 6 t : Vec Ideal S2816x1024 .bf16) (ix2 j k))
      = ∑ k : Fin 1024, hid (V c main_v14) (V c main_v0) (V c main_v15) (V c main_v16) (V c main_v17) r k
        * (V c main_v19 : FVec Ideal S2816x1024 .bf16) (ix2 j k) :=
    Finset.sum_congr rfl fun k _ => by rw [hid_at V c t p k r hr, read6]
  exact congrArg₂ (fun a b : EReal => Ideal.logistic a * a * b) h1 h2

theorem point (c : Dev nD) (t : Fin cfg2.N) (p : Fin 512) (d : Fin 1024) (r : Fin 2048) (hr : (r : ℕ) = t.val * 512 + p) :
    k2_pay1 (F := Ideal) (k2_pay2 (iblk2 V c 0 t) (iblk2 V c 2 t) (iblk2 V c 3 t) (iblk2 V c 1 t) (iblk2 V c 4 t))
        (k2_pay3 (iblk2 V c 0 t) (iblk2 V c 2 t) (iblk2 V c 3 t) (iblk2 V c 1 t) (iblk2 V c 4 t) (iblk2 V c 5 t) (iblk2 V c 6 t))
        (iblk2 V c 7 t) (ix2 p d)
      = mlp (V c main_v14) (V c main_v0) (V c main_v15) (V c main_v16) (V c main_v17) (V c main_v18) (V c main_v19)
          (V c main_v20) (ix2 r d) := by
  refine (out_at _ _ _ p d).trans ?_
  refine congrArg₂ (fun a b : EReal => a + b) (hid_at V c t p d r hr) (Finset.sum_congr rfl fun j _ => ?_)
  exact congrArg₂ (fun a b : EReal => a * b) (gate_eq V c t p j r hr) (read7 V c t d j)

/-- What the call leaves in its result array. -/
theorem final (c : Dev nD) :
    (dat2 V c).arrAt 8 cfg2.N = mlp (V c main_v14) (V c main_v0) (V c main_v15) (V c main_v16) (V c main_v17) (V c main_v18)
      (V c main_v19) (V c main_v20) := by
  refine (dat2 V c).arrAt_eq_of_covers 8 _ (by decide +kernel) fun t hf y => ?_
  blk_simp
  rw [after2_8]; frame_out
  have ht : t.val < 4 := lt_of_lt_of_eq t.isLt N_2
  idx_vars y
  refine (point V c t y0 y1 ⟨t.val * 512 + y0.val, by omega⟩ rfl).trans (congrArg _ ?_)
  blk_ext [blocks t]

end Cert.Proof.Mlp
-- ==== Proof.Inorm.lean ====
/- The instance-norm call: what it leaves in its result array, as a formula over the arrays it reads. -/
module

public import proofs.«01_k».proof.Proof.Gen.KernelIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Proof.Inorm

open Cert.KernelIdeal Cert.KernelIdeal.Gen

variable (V : (c : Dev nD) → (b : Ref sig .tc) → Buf (Elt Ideal) ((c : Thread nD τ).loc b))

/-- Each column of the array less its mean, over the root of its variance (plus 1e-5), scaled and shifted. -/
def inorm (X : FVec Ideal S2048x1024 .f32) (w b : FVec Ideal S1x1024 .f32) : FVec Ideal S2048x1024 .f32 := fun i =>
  let mu : EReal := Ideal.div (∑ k : Fin 2048, (X (ix2 k (i 1)) : EReal)) (Ideal.ofBits .f32 0x45000000#32)
  let var : EReal := Ideal.div (∑ k : Fin 2048, ((X (ix2 k (i 1)) : EReal) - mu) * ((X (ix2 k (i 1)) : EReal) - mu))
    (Ideal.ofBits .f32 0x45000000#32)
  Ideal.div ((X (ix2 (i 0) (i 1)) : EReal) - mu) (Ideal.sqrt (var + Ideal.ofBits .f32 0x3727C5AC#32)) * w (ix2 0 (i 1))
    + b (ix2 0 (i 1))

/-- The block every window is on: each is its whole array. -/
theorem blocks : ∀ t : Fin cfg3.N, win3_0.index t = ![0, 0] ∧ win3_1.index t = ![0, 0]
    ∧ win3_2.index t = ![0, 0] ∧ win3_3.index t = ![0, 0] :=
  (by decide +kernel : ∀ t : Fin grid3.N, _)

theorem point (c : Dev nD) (t : Fin cfg3.N) (y) :
    k3_pay1 (F := Ideal) (iblk3 V c 0 t) (iblk3 V c 1 t) (iblk3 V c 2 t) y
      = inorm (V c main_v21) (V c main_v22) (V c main_v23) (((cfg3.win 3).blk t).view.emb y) := by
  pointwise [k3_pay1, inorm]
  blk_point [iblk3, blocks t]

/-- What the instance-norm call leaves in its result array. -/
theorem final (c : Dev nD) :
    (dat3 V c).arrAt 3 cfg3.N = inorm (V c main_v21) (V c main_v22) (V c main_v23) := by
  refine (dat3 V c).arrAt_eq_of_covers 3 _ (by decide +kernel) fun t hf y => ?_
  blk_simp
  rw [after3_3]; frame_out
  exact point V c t y

end Cert.Proof.Inorm
-- ==== Proof.Tail.lean ====
/- The kernel's hidden row, feed-forward and instance norm are the reference's, over the same attention rows: the two differ only
   in the order of a sum and of a product. -/
module

public import proofs.«01_k».proof.Proof.Gen.ReferenceIdeal.Read
public import proofs.«01_k».proof.Proof.Mlp
public import proofs.«01_k».proof.Proof.Inorm

@[expose] public section

set_option maxRecDepth 16384

noncomputable section

open Idealize.ShloMosaic Idealize.ShloMosaic.TcCoe Idealize.SL.Sem
open Idealize.ShloMosaic.Pipeline (Dat)

namespace Cert.Proof.Tail

open Cert.ReferenceIdeal Cert.ReferenceIdeal.Gen Cert.ReferenceIdeal.Read Cert.Proof.Mlp Cert.Proof.Inorm

variable (x0 : FVec Ideal S1x2048x1024 .f32) (x1 : FVec Ideal S1024x1024 .f32) (x2 : FVec Ideal S1024 .f32)
  (x3 : FVec Ideal S2048x1024 .f32) (x4 : FVec Ideal S2048 .f32) (x5 : FVec Ideal S1024x1024 .f32) (x6 x7 : FVec Ideal S1024 .f32)
  (x8 x9 : FVec Ideal S2816x1024 .f32) (x10 : FVec Ideal S1024x2816 .f32) (x11 x12 : FVec Ideal S1024 .f32)

theorem v66_at (r : Fin 2048) (d : Fin 1024) :
    val_main_v66 (F := Ideal) x0 x1 x2 x3 x4 x5 x6 (ix3 0 r d)
      = (x0 (ix3 0 r d) : EReal) + ((∑ k : Fin 1024, (val_main_v60 (F := Ideal) x0 x1 x2 x3 x4 (ix3 0 r k) : EReal) * x5 (ix2 d k)) + x6 (ix1 d)) := by
  unfold val_main_v66 val_main_v65 val_main_v64 val_main_v63 val_main_v62 val_main_v61
  pointwise

theorem v79_at (r : Fin 2048) (d : Fin 1024) :
    val_main_v79 (F := Ideal) x0 x1 x2 x3 x4 x5 x6 x7 (ix3 0 r d)
      = (val_main_v66 (F := Ideal) x0 x1 x2 x3 x4 x5 x6 (ix3 0 r d) : EReal)
        * Ideal.rsqrt (Ideal.div (∑ k : Fin 1024, (val_main_v66 (F := Ideal) x0 x1 x2 x3 x4 x5 x6 (ix3 0 r k) : EReal)
            * val_main_v66 (F := Ideal) x0 x1 x2 x3 x4 x5 x6 (ix3 0 r k)) (Ideal.ofBits .f32 0x44800000#32) + Ideal.ofBits .f32 0x358637BD#32)
        * x7 (ix1 d) := by
  unfold val_main_v79 val_main_v78 val_main_v77 val_main_v76 val_main_v75 val_main_v74 val_main_v73 val_main_v72 val_main_v71 val_main_v70
    val_main_v69 val_main_v68 val_main_v67 val_main_cst_14 val_main_cst_15 val_main_cst_16
  pointwise

theorem v81_at (r : Fin 2048) (j : Fin 2816) :
    val_main_v81 (F := Ideal) x0 x1 x2 x3 x4 x5 x6 x7 x8 (ix3 0 r j)
      = ∑ k : Fin 1024, (val_main_v79 (F := Ideal) x0 x1 x2 x3 x4 x5 x6 x7 (ix3 0 r k) : EReal) * x8 (ix2 j k) := by
  unfold val_main_v81 val_main_v80
  pointwise

theorem v83_at (r : Fin 2048) (j : Fin 2816) :
    val_main_v83 (F := Ideal) x0 x1 x2 x3 x4 x5 x6 x7 x9 (ix3 0 r j)
      = ∑ k : Fin 1024, (val_main_v79 (F := Ideal) x0 x1 x2 x3 x4 x5 x6 x7 (ix3 0 r k) : EReal) * x9 (ix2 j k) := by
  unfold val_main_v83 val_main_v82
  pointwise

theorem v85_at (r : Fin 2048) (j : Fin 2816) :
    val_main_v85 (F := Ideal) x0 x1 x2 x3 x4 x5 x6 x7 x8 x9 (ix3 0 r j)
      = (val_main_v81 (F := Ideal) x0 x1 x2 x3 x4 x5 x6 x7 x8 (ix3 0 r j) : EReal)
        * Ideal.logistic (val_main_v81 (F := Ideal) x0 x1 x2 x3 x4 x5 x6 x7 x8 (ix3 0 r j))
        * val_main_v83 (F := Ideal) x0 x1 x2 x3 x4 x5 x6 x7 x9 (ix3 0 r j) := by
  unfold val_main_v85 val_main_v84 val_main_call4_v5 val_main_call4_v4 val_main_call4_v3 val_main_call4_v2 val_main_call4_v1 val_main_call4_v0
    val_main_call4_cst val_main_call4_cst_0
  pointwise [Ideal.logistic]

theorem v88_at (r : Fin 2048) (d : Fin 1024) :
    val_main_v88 (F := Ideal) x0 x1 x2 x3 x4 x5 x6 x7 x8 x9 x10 (ix3 0 r d)
      = (val_main_v79 (F := Ideal) x0 x1 x2 x3 x4 x5 x6 x7 (ix3 0 r d) : EReal)
        + ∑ j : Fin 2816, (val_main_v85 (F := Ideal) x0 x1 x2 x3 x4 x5 x6 x7 x8 x9 (ix3 0 r j) : EReal) * x10 (ix2 d j) := by
  unfold val_main_v88 val_main_v87 val_main_v86
  pointwise

/-- The instance norm over the hidden rows. -/
theorem v112_at (X : FVec Ideal Cert.KernelIdeal.S2048x1024 .f32) (w b : FVec Ideal Cert.KernelIdeal.S1x1024 .f32)
    (hX : ∀ (r : Fin 2048) (d : Fin 1024), (X (ix2 r d) : EReal) = val_main_v88 (F := Ideal) x0 x1 x2 x3 x4 x5 x6 x7 x8 x9 x10 (ix3 0 r d))
    (hw : ∀ d : Fin 1024, (w (ix2 0 d) : EReal) = x11 (ix1 d)) (hb : ∀ d : Fin 1024, (b (ix2 0 d) : EReal) = x12 (ix1 d))
    (r : Fin 2048) (d : Fin 1024) :
    inorm X w b (ix2 r d) = val_main_v112 (F := Ideal) x0 x1 x2 x3 x4 x5 x6 x7 x8 x9 x10 x11 x12 (ix3 0 r d) := by
  unfold val_main_v112 val_main_v111 val_main_v110 val_main_v109 val_main_v108 val_main_v107 val_main_v106 val_main_v105 val_main_v104 val_main_v103
    val_main_v102 val_main_v101 val_main_v100 val_main_v99 val_main_v98 val_main_v97 val_main_v96 val_main_v95 val_main_v94 val_main_v93 val_main_v92
    val_main_v91 val_main_v90 val_main_v89 val_main_cst_17 val_main_cst_18 val_main_cst_19 val_main_cst_20 val_main_cst_21
  pointwise [inorm, hX, hw, hb]

section Hidden
variable (A X : FVec Ideal Cert.KernelIdeal.S2048x1024 .f32) (Wo : FVec Ideal Cert.KernelIdeal.S1024x1024 .bf16)
  (bo rms : FVec Ideal Cert.KernelIdeal.S1x1024 .f32) (l1 l2 : FVec Ideal Cert.KernelIdeal.S2816x1024 .bf16)
  (l3 : FVec Ideal Cert.KernelIdeal.S1024x2816 .bf16)
  (hA : ∀ (r : Fin 2048) (d : Fin 1024), (A (ix2 r d) : EReal) = val_main_v60 (F := Ideal) x0 x1 x2 x3 x4 (ix3 0 r d))
  (hX : ∀ (r : Fin 2048) (d : Fin 1024), (X (ix2 r d) : EReal) = x0 (ix3 0 r d))
  (hWo : ∀ j k : Fin 1024, (Wo (ix2 j k) : EReal) = x5 (ix2 j k))
  (hbo : ∀ d : Fin 1024, (bo (ix2 0 d) : EReal) = x6 (ix1 d)) (hrms : ∀ d : Fin 1024, (rms (ix2 0 d) : EReal) = x7 (ix1 d))
  (h1 : ∀ (j : Fin 2816) (k : Fin 1024), (l1 (ix2 j k) : EReal) = x8 (ix2 j k))
  (h2 : ∀ (j : Fin 2816) (k : Fin 1024), (l2 (ix2 j k) : EReal) = x9 (ix2 j k))
  (h3 : ∀ (d : Fin 1024) (j : Fin 2816), (l3 (ix2 d j) : EReal) = x10 (ix2 d j))

include hA hX hWo hbo in
theorem res_eq (r : Fin 2048) (d : Fin 1024) : res A X Wo bo r d = val_main_v66 (F := Ideal) x0 x1 x2 x3 x4 x5 x6 (ix3 0 r d) := by
  rw [v66_at]
  unfold res
  rw [add_comm, hX, hbo]
  simp only [hA, hWo]

include hA hX hWo hbo hrms in
theorem hid_eq (r : Fin 2048) (d : Fin 1024) : hid A X Wo bo rms r d = val_main_v79 (F := Ideal) x0 x1 x2 x3 x4 x5 x6 x7 (ix3 0 r d) := by
  rw [v79_at]
  unfold hid
  simp only [res_eq x0 x1 x2 x3 x4 x5 x6 A X Wo bo hA hX hWo hbo, hrms]

include hA hX hWo hbo hrms h1 h2 h3 in
theorem mlp_eq (r : Fin 2048) (d : Fin 1024) :
    mlp A X Wo bo rms l1 l2 l3 (ix2 r d) = val_main_v88 (F := Ideal) x0 x1 x2 x3 x4 x5 x6 x7 x8 x9 x10 (ix3 0 r d) := by
  rw [v88_at]
  show hid A X Wo bo rms r d + ∑ j : Fin 2816, gate (hid A X Wo bo rms) l1 l2 r j * l3 (ix2 d j) = _
  rw [hid_eq x0 x1 x2 x3 x4 x5 x6 x7 A X Wo bo rms hA hX hWo hbo hrms]
  refine congrArg (_ + ·) (Finset.sum_congr rfl fun j _ => ?_)
  rw [v85_at, v81_at, v83_at, h3]
  unfold gate
  simp only [hid_eq x0 x1 x2 x3 x4 x5 x6 x7 A X Wo bo rms hA hX hWo hbo hrms, h1, h2]
  refine congrArg (· * _) (congrArg (· * _) (mul_comm _ _))

end Hidden

end Cert.Proof.Tail
-- ==== Proof.Whole.lean ====
/- What the whole kernel leaves in its result array is the reference's result, and the value claim. -/
module

public import proofs.«01_k».proof.Defs
public import proofs.«01_k».proof.Proof.LaunchRun
public import proofs.«01_k».proof.Proof.AttnEq
public import proofs.«01_k».proof.Proof.Tail
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Proof.Whole

open Cert.KernelIdeal Cert.KernelIdeal.Gen Cert.ReferenceIdeal.Read Cert.Proof.Entry

variable (m : (ℓ : Loc nD τ sig) → Buf (Elt Ideal) ℓ) (ρ : Dev nD → PrngReg) (c : Dev nD)

/-- The projection call's array, as the attention call reads it. -/
theorem v13_at : AttnEq.IsQkv (m ((c : Thread nD τ).loc main_arg0)) (m ((c : Thread nD τ).loc main_arg1)) (m ((c : Thread nD τ).loc main_arg2)) (m ((c : Thread nD τ).loc main_arg3)) (m ((c : Thread nD τ).loc main_arg4)) (V2 m ρ c main_v13) := by
  intro r j
  have h : V2 m ρ c main_v13 = Proj.qkv (V1 m ρ c main_v1) (V1 m ρ c main_v8) (V1 m ρ c main_v12) :=
    (W2_arr m ρ c 3).trans (Proj.final (V1 m ρ) c)
  rw [h]
  refine congrArg₂ (fun a b : EReal => a + b) (Finset.sum_congr rfl fun k _ => ?_) (v12_at m ρ c j)
  exact congrArg₂ (fun a b : EReal => a * b) (v1_at m ρ c r k) (v8_at m ρ c j k)

/-- The attention call's array, as the feed-forward call reads it. -/
theorem v14_at (r : Fin 2048) (l : Fin 1024) :
    (V4 m ρ c main_v14 (ix2 r l) : EReal) = val_main_v60 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix3 0 r l) := by
  have h : V4 m ρ c main_v14 = Attn.attn (V2 m ρ c main_v13) :=
    (W4_of m ρ c main_v14 (by decide)).trans ((W3_arr m ρ c 3).trans (Attn.final (V2 m ρ) c))
  rw [h]
  exact AttnEq.attn_eq (v13_at m ρ c) r l

/-- The residual input, as the feed-forward call reads it. -/
theorem v0_late (r : Fin 2048) (k : Fin 1024) : (V4 m ρ c main_v0 (ix2 r k) : EReal) = (m ((c : Thread nD τ).loc main_arg0)) (ix3 0 r k) := by
  have h : V4 m ρ c main_v0 = V1 m ρ c main_v0 :=
    (W4_of m ρ c main_v0 (by decide)).trans ((W3_of m ρ c main_v0 (by decide)).trans (W2_of m ρ c main_v0 (by decide)))
  rw [h]
  exact v0_at m ρ c r k

/-- The feed-forward call's array, as the norm call reads it. -/
theorem v21_at (r : Fin 2048) (d : Fin 1024) :
    (V6 m ρ c main_v21 (ix2 r d) : EReal) = val_main_v88 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (ix3 0 r d) := by
  have h : V6 m ρ c main_v21 = Mlp.mlp (V4 m ρ c main_v14) (V4 m ρ c main_v0) (V4 m ρ c main_v15) (V4 m ρ c main_v16) (V4 m ρ c main_v17)
      (V4 m ρ c main_v18) (V4 m ρ c main_v19) (V4 m ρ c main_v20) :=
    (W6_of m ρ c main_v21 (by decide)).trans ((W5_arr m ρ c 8).trans (Mlp.final (V4 m ρ) c))
  rw [h]
  exact Tail.mlp_eq _ _ _ _ _ _ _ _ _ _ _ _ _ _ _ _ _ _ _ (v14_at m ρ c) (v0_late m ρ c) (v15_at m ρ c) (v16_at m ρ c) (v17_at m ρ c)
    (v18_at m ρ c) (v19_at m ρ c) (v20_at m ρ c) r d

/-- The kernel's result is the reference's function of the arguments. -/
theorem result_eq : W8 m ρ c (Proc.devRef .tc main_v25) = val_main_v112 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  funext y
  obtain ⟨p, r, d, rfl⟩ : ∃ (p : Fin 1) (r : Fin 2048) (d : Fin 1024), y = ix3 p r d :=
    ⟨y 0, y 1, y 2, by funext a; fin_cases a <;> rfl⟩
  obtain rfl : p = 0 := Subsingleton.elim _ _
  refine (v25_at m ρ c 0 r d).trans ?_
  have h : W7 m ρ c (Proc.devRef .tc main_v24) = Inorm.inorm (V6 m ρ c main_v21) (V6 m ρ c main_v22) (V6 m ρ c main_v23) :=
    (W7_arr m ρ c 3).trans (Inorm.final (V6 m ρ) c)
  rw [h]
  exact Tail.v112_at _ _ _ _ _ _ _ _ _ _ _ _ _ _ _ _ (v21_at m ρ c) (v22_at m ρ c) (v23_at m ρ c) r d

end Cert.Proof.Whole

namespace Cert.Proof

/-- Kernel and reference compute the same array over the extended reals, for all arguments. -/
theorem algebraic : Cert.algebraic_KernelIdeal_ReferenceIdeal (hKernelIdeal := Cert.KernelIdeal.Gen.facts)
    (hReferenceIdeal := Cert.ReferenceIdeal.Gen.facts) := by
  intro m g m' g' _ hag
  refine ⟨fun c => Cert.KernelIdeal.Gen.W8 m g c (Proc.devRef .tc Cert.KernelIdeal.main_v25), Cert.Proof.Whole.run m g, ?_⟩
  refine (θ_run _ _ _).mono (fun r h c => ⟨(h c).1.trans ?_, (h c).2⟩) (Cert.ReferenceIdeal.Value.run (F := Ideal) m' g')
  obtain ⟨h0, h1, h2, h3, h4, h5, h6, h7, h8, h9, h10, h11, h12⟩ := hag c
  refine (Cert.ReferenceIdeal.Read.val_main_v112_eq (F := Ideal) _).trans ?_
  refine Eq.trans ?_ (Cert.Proof.Whole.result_eq m g c).symm
  rw [← h0, ← h1, ← h2, ← h3, ← h4, ← h5, ← h6, ← h7, ← h8, ← h9, ← h10, ← h11, ← h12]

end Cert.Proof
-- ==== Proof.RowsAttn.lean ====
/- The attention call on rows built from three small arrays: what it leaves in its result array, from those arrays. -/
module

public import proofs.«01_k».proof.Proof.Gen.KernelRowsIdeal.Frame
public import Idealize.ShloMosaic.Lib.Pipeline.ValueKit
public import Idealize.ShloMosaic.Lib.Claim
public import proofs.«01_k».proof.Proof.AttnEq

@[expose] public section

set_option maxRecDepth 16384

noncomputable section

open Idealize.ShloMosaic Idealize.ShloMosaic.TcCoe Idealize.SL.Sem
open Idealize.ShloMosaic.Pipeline (Dat)

namespace Cert.Proof.RowsAttn

open Cert.KernelRowsIdeal Cert.KernelRowsIdeal.Gen Cert.Proof.Row Cert.Proof.Attn

variable (m : (ℓ : Loc nD τ sig) → Buf (Elt Ideal) ℓ) (c : Dev nD)

/-- The head's stored block; the payloads are the whole kernel's. -/
theorem head_at (v0 : Vec Ideal S1024x64 .bf16) (v2 v4 : Vec Ideal S2048x64 .bf16) (p : Fin 1024) (d : Fin 64) :
    k0_pay18 v0 v2 v4 (Scf.fold (n := k0_t1_loop.trips) (fun _ a => (k0_pay16 v0 v2 a.1 a.2, k0_pay17 v0 v2 a.1 a.2))
        (k0_pay12 (F := Ideal), k0_pay13 v0 v2)).1 (ix2 p d)
      = krow (fun t => Ideal.exp2 (∑ k : Fin 64, (v0 (ix2 p k) : EReal) * v2 (ix2 t k))) (fun t => v4 (ix2 t d)) :=
  Cert.Proof.Attn.head_at v0 v2 v4 p d

theorem second_head (v0 : Vec Ideal S1024x64 .bf16) (v2 v4 : Vec Ideal S2048x64 .bf16) :
    k0_pay9 (k0_pay19 v0) v2 v4 (Scf.fold (n := k0_t2_loop.trips)
        (fun _ a => (k0_pay7 (k0_pay19 v0) v2 a.1 a.2, k0_pay8 (k0_pay19 v0) v2 a.1 a.2))
        (k0_pay3 (F := Ideal), k0_pay4 (k0_pay19 v0) v2)).1
      = k0_pay18 v0 v2 v4 (Scf.fold (n := k0_t1_loop.trips) (fun _ a => (k0_pay16 v0 v2 a.1 a.2, k0_pay17 v0 v2 a.1 a.2))
        (k0_pay12 (F := Ideal), k0_pay13 v0 v2)).1 := rfl

/-- The block every window is on, at every grid point. -/
theorem blocks : ∀ t : Fin cfg0.N, win0_0.index t = ![t.val % 2, t.val / 2] ∧ win0_1.index t = ![0, 8 + t.val / 2]
    ∧ win0_2.index t = ![0, 16 + t.val / 2] ∧ win0_3.index t = ![t.val % 2, t.val / 2] :=
  (by decide +kernel : ∀ t : Fin grid0.N, _)

theorem point (t : Fin cfg0.N) (y0 : Fin 1024) (y1 : Fin 128) (r : Fin 2048) (l : Fin 1024)
    (hr : (r : ℕ) = t.val % 2 * 1024 + y0) (hl : (l : ℕ) = t.val / 2 * 128 + y1) :
    outsAt0 m c t (ix2 y0 y1) = attnAt (V m c main_v14) r l := by
  unfold outsAt0; frame_out
  have ht : t.val < 16 := lt_of_lt_of_eq t.isLt N_0
  canon_tiles x h
  · idx_vars x
    rw [second_head]
    have hl' : l.val / 64 * 64 = t.val / 2 * 128 + 64 := by omega
    refine (head_at _ _ _ x0 x1).trans ?_
    unfold attnAt
    refine congrArg₂ krow (funext fun u => congrArg Ideal.exp2 (Finset.sum_congr rfl fun k _ =>
      congrArg₂ (fun a b : EReal => a * b) ?_ ?_)) (funext fun u => ?_)
    all_goals (pointwise [iblk]; blk_point [iblk, blocks t])
  · idx_vars x
    have hl' : l.val / 64 * 64 = t.val / 2 * 128 := by omega
    refine (head_at _ _ _ x0 x1).trans ?_
    unfold attnAt
    refine congrArg₂ krow (funext fun u => congrArg Ideal.exp2 (Finset.sum_congr rfl fun k _ =>
      congrArg₂ (fun a b : EReal => a * b) ?_ ?_)) (funext fun u => ?_)
    all_goals (pointwise [iblk]; blk_point [iblk, blocks t])

/-- What the call leaves in its result array. -/
theorem final : (dats m 0 c).arrAt 3 cfg0.N = attn (V m c main_v14) := by
  refine (dats m 0 c).arrAt_eq_of_covers 3 _ (by decide +kernel) fun t hf y => ?_
  blk_simp
  rw [after0_3]
  have ht : t.val < 16 := lt_of_lt_of_eq t.isLt N_0
  idx_vars y
  refine (point m c t y0 y1 ⟨t.val % 2 * 1024 + y0.val, by omega⟩ ⟨t.val / 2 * 128 + y1.val, by omega⟩ rfl rfl).trans ?_
  show attn (V m c main_v14) (ix2 _ _) = _
  refine congrArg (attn (V m c main_v14)) ?_
  blk_ext [blocks t]

/-- An entry scaled by the factor of the queries. -/
def times (a : EReal) : EReal := a * Entry.scl

/-- The rows of the stacked array: the scaled query everywhere, then the key and the value of the row's quarter. -/
def rows (q : FVec Ideal S1 .f32) (k v : FVec Ideal S4 .f32) (r : Fin 2048) (j : Fin 3072) : EReal :=
  if j.val < 1024 then times (q (ix1 0)) else if j.val < 2048 then k (ix1 ⟨r.val / 512, by omega⟩) else v (ix1 ⟨r.val / 512, by omega⟩)

/-- A row array built from four entries: each on its quarter of the rows. -/
def quart (x : FVec Ideal S4 .f32) : FVec Ideal S2048x1024 .f32 :=
  shapeCast _ (broadcastInDim S4x512x1024 ![0, 1, 2] bcast_S4x1x1_S4x512x1024_0_1_2 (broadcastInDim S4x1x1 ![0] bcast_S4_S4x1x1_0 x))
    shapeCasts_S4x512x1024_S2048x1024

theorem quart_at (x : FVec Ideal S4 .f32) (r : Fin 2048) (l : Fin 1024) : quart x (ix2 r l) = x (ix1 ⟨r.val / 512, by omega⟩) := by
  unfold quart
  pointwise

/-- The scaled query: one entry everywhere. -/
def query (x : FVec Ideal S1 .f32) : FVec Ideal S2048x1024 .f32 :=
  mulf (broadcastInDim S2048x1024 ![] bcast_S_S2048x1024 (shapeCast S_ x shapeCasts_S1_S_))
    (broadcastInDim S2048x1024 ![] bcast_S_S2048x1024 (Host.divf (constant S_ .f32 0x3F800000#32)
      (mulf (Host.log (constant S_ .f32 0x40000000#32)) (constant S_ .f32 0x41000000#32))))

theorem query_at (x : FVec Ideal S1 .f32) (r : Fin 2048) (l : Fin 1024) : query x (ix2 r l) = times (x (ix1 0)) := by
  unfold query
  pointwise [times, Entry.scl]

theorem cat_at (a b d : FVec Ideal S2048x1024 .f32) (r : Fin 2048) (j : Fin 3072) :
    (concatenate S2048x3072 1 [⟨S2048x1024, a⟩, ⟨S2048x1024, b⟩, ⟨S2048x1024, d⟩] concatenates_S2048x1024_S2048x1024_S2048x1024_S2048x3072_d1 : FVec Ideal S2048x3072 .f32) (ix2 r j)
      = if h : j.val < 1024 then a (ix2 r ⟨j.val, h⟩) else if h' : j.val - 1024 < 1024 then b (ix2 r ⟨j.val - 1024, h'⟩)
        else d (ix2 r ⟨j.val - 1024 - 1024, by omega⟩) := by
  pointwise

theorem v14_eq : V m c main_v14 = truncf .bf16 (concatenate S2048x3072 1 [⟨S2048x1024, query (m ((c : Thread nD τ).loc main_arg0))⟩,
      ⟨S2048x1024, quart (m ((c : Thread nD τ).loc main_arg1))⟩, ⟨S2048x1024, quart (m ((c : Thread nD τ).loc main_arg2))⟩]
      concatenates_S2048x1024_S2048x1024_S2048x1024_S2048x3072_d1 : FVec Ideal S2048x3072 .f32) bitsLt_bf16_f32 := by
  rfl

theorem v14_at (r : Fin 2048) (j : Fin 3072) : V m c main_v14 (ix2 r j)
    = rows (m ((c : Thread nD τ).loc main_arg0)) (m ((c : Thread nD τ).loc main_arg1)) (m ((c : Thread nD τ).loc main_arg2)) r j := by
  rw [v14_eq]
  refine (cat_at (query (m ((c : Thread nD τ).loc main_arg0))) (quart (m ((c : Thread nD τ).loc main_arg1))) (quart (m ((c : Thread nD τ).loc main_arg2))) r j).trans ?_
  unfold rows
  simp only [query_at, quart_at]
  split_ifs <;> first | rfl | omega

end Cert.Proof.RowsAttn
-- ==== Proof.RowsCut.lean ====
/- A row where the kernel's cut and the exact top half disagree: 512 entries score 5/2, the rest at most 0, so that the cut
   rounds down to nothing and the kernel keeps every entry, where the top half keeps 1024. -/
module

public import proofs.«01_k».proof.Proof.Math

@[expose] public section

set_option maxRecDepth 16384

noncomputable section

open Idealize.ShloMosaic Idealize.ShloMosaic.TcCoe Idealize.SL.Sem
open Idealize.ShloMosaic.Pipeline (Dat)

namespace Cert.Proof.RowsCut

open Finset Cert.Proof.Row

/-- The scores of the row. -/
structure Scores (s : Fin 2048 → ℝ) : Prop where
  high : ∀ t : Fin 2048, t.val < 512 → s t = 5 / 2
  low : ∀ t : Fin 2048, ¬ t.val < 512 → s t ≤ 0

/-- The softmax weight. -/
def wgt (s : Fin 2048 → ℝ) (t : Fin 2048) : ℝ := Real.exp (s t) / ∑ u, Real.exp (s u)

/-- One on the high entries, nothing elsewhere. -/
def ind (t : Fin 2048) : ℝ := if t.val < 512 then 1 else 0

def high : Finset (Fin 2048) := Finset.Iio 512

theorem mem_high (t : Fin 2048) : t ∈ high ↔ t.val < 512 := Finset.mem_Iio.trans Fin.lt_def

theorem card_high : high.card = 512 := Fin.card_Iio _

theorem eight_le : (8 : ℝ) ≤ Real.exp (5 / 2) := by
  have h : Real.exp (5 / 2) = Real.exp (1 / 4) ^ 10 := by rw [← Real.exp_nat_mul]; norm_num
  have h' : (5 / 4 : ℝ) ≤ Real.exp (1 / 4) := by linarith [Real.add_one_le_exp (1 / 4 : ℝ)]
  rw [h]
  exact le_trans (by norm_num) (pow_le_pow_left₀ (by norm_num) h' 10)

variable {s : Fin 2048 → ℝ} (hs : Scores s)

theorem total_pos (s : Fin 2048 → ℝ) : 0 < ∑ u, Real.exp (s u) :=
  Finset.sum_pos (fun t _ => Real.exp_pos _) ⟨0, Finset.mem_univ _⟩

theorem wgt_pos (s : Fin 2048 → ℝ) (t : Fin 2048) : 0 < wgt s t := div_pos (Real.exp_pos _) (total_pos s)

theorem wgt_le {s : Fin 2048 → ℝ} {a b : Fin 2048} : wgt s a ≤ wgt s b ↔ s a ≤ s b := by
  unfold wgt
  rw [div_le_div_iff_of_pos_right (total_pos s), Real.exp_le_exp]

include hs

theorem total_ge : 4096 ≤ ∑ u, Real.exp (s u) := by
  have h : ∑ u ∈ high, Real.exp (s u) ≤ ∑ u, Real.exp (s u) :=
    Finset.sum_le_sum_of_subset_of_nonneg (Finset.subset_univ _) fun t _ _ => (Real.exp_pos _).le
  have h' : ∑ u ∈ high, Real.exp (s u) = 512 * Real.exp (5 / 2) := by
    rw [Finset.sum_congr rfl fun t ht => by rw [hs.high t ((mem_high t).mp ht)], Finset.sum_const, card_high, nsmul_eq_mul]
    norm_num
  have := eight_le
  linarith

/-- No threshold from one up is under half of the entries. -/
theorem not_many (y : ℝ) (hy : 1 ≤ y) : ¬ many (fun t => ((Real.exp (s t) : ℝ) : EReal)) (y : EReal) := by
  unfold many
  have : (univ.filter fun t => (y : EReal) < ((Real.exp (s t) : ℝ) : EReal)) ⊆ high := fun t ht => by
    rw [Finset.mem_filter, EReal.coe_lt_coe_iff] at ht
    rw [mem_high]
    by_contra hn
    have := Real.exp_le_one_iff.mpr (hs.low t hn)
    linarith [ht.2]
  have h := Finset.card_le_card this
  rw [card_high] at h
  intro h'
  exact absurd (h'.trans h) (by decide)

/-- The kernel's row keeps every entry. -/
theorem kernel_row : krow (fun t => ((Real.exp (s t) : ℝ) : EReal)) (fun t => (ind t : EReal))
    = (((∑ t, Real.exp (wgt s t) * ind t) / ∑ t, Real.exp (wgt s t) : ℝ) : EReal) := by
  have hX := total_pos s
  have hX' := total_ge hs
  have hw : ∀ t, wt (fun t => ((Real.exp (s t) : ℝ) : EReal)) t = ((Real.exp (wgt s t) : ℝ) : EReal) := fun t => by
    unfold wt
    rw [sum_coe, cut_eq, if_neg (not_many hs _ (by linarith)), if_neg (not_many hs _ (by linarith)),
      if_pos (show (0 : EReal) < ((Real.exp (s t) : ℝ) : EReal) by exact_mod_cast Real.exp_pos (s t))]
    unfold lg wgt
    rw [Ideal.div_coe hX.ne', ← EReal.coe_mul, ← EReal.coe_mul, Ideal.exp2_coe]
    congr 1
    show (2 : ℝ) ^ (_ : ℝ) = _
    rw [Real.rpow_def_of_pos (by norm_num)]
    congr 1
    have := (Real.log_pos (by norm_num : (1 : ℝ) < 2)).ne'
    field_simp
  have hD : 0 < ∑ t, Real.exp (wgt s t) := total_pos _
  unfold krow
  simp only [hw, ← EReal.coe_mul]
  rw [sum_coe, sum_coe, Ideal.div_coe hD.ne', ← EReal.coe_mul]
  congr 1
  field_simp

omit hs

/-- The first softmax of real scores. -/
theorem w1_real (t₀ t : Fin 2048) : w1 (fun t => (s t : EReal)) (s t₀ : EReal) t = (wgt s t : EReal) := by
  have hX := total_pos s
  unfold w1 wgt
  simp only [exp_sub_coe]
  have h : ∀ u, Real.exp (s u - s t₀) = Real.exp (-s t₀) * Real.exp (s u) := fun u => by rw [← Real.exp_add]; congr 1; ring
  simp only [h]
  have hp := Real.exp_pos (-s t₀)
  rw [sum_coe, ← Finset.mul_sum, Ideal.div_coe (by positivity), ← EReal.coe_mul]
  congr 1
  field_simp

open Classical in
/-- The weights kept by a mask. -/
def kept (s : Fin 2048 → ℝ) (M : Fin 2048 → Prop) (t : Fin 2048) : ℝ := if M t then wgt s t else 0

/-- The second softmax against the indicator. -/
theorem reference_row (m : Fin 2048 → ℝ) (t₀ : Fin 2048) :
    ∑ t, Ideal.div (Ideal.exp ((m t : EReal) - (m t₀ : EReal))) (∑ u, Ideal.exp ((m u : EReal) - (m t₀ : EReal))) * (ind t : EReal)
      = (((∑ t, Real.exp (m t) * ind t) / ∑ t, Real.exp (m t) : ℝ) : EReal) := by
  have hD := total_pos m
  simp only [exp_sub_coe]
  rw [← div_row (fun t => Real.exp (m t)) (fun t => (ind t : EReal)) hD (fun t => Real.exp (m t - m t₀)) (Real.exp (-m t₀)) (Real.exp_pos _)
    fun t => by rw [← Real.exp_add]; congr 1; ring]
  simp only [← EReal.coe_mul]
  rw [sum_coe, sum_coe, Ideal.div_coe hD.ne', ← EReal.coe_mul]
  congr 1
  field_simp

/-- A mask that keeps the high entries and drops some entry leaves another row. -/
theorem rows_ne (M : Fin 2048 → Prop) (h1 : ∀ t : Fin 2048, t.val < 512 → M t) (h2 : ∃ t, ¬ M t) :
    (∑ t, Real.exp (wgt s t) * ind t) / (∑ t, Real.exp (wgt s t))
      ≠ (∑ t, Real.exp (kept s M t) * ind t) / ∑ t, Real.exp (kept s M t) := by
  have hN : ∑ t, Real.exp (kept s M t) * ind t = ∑ t, Real.exp (wgt s t) * ind t := Finset.sum_congr rfl fun t _ => by
    unfold ind
    split_ifs with h
    · unfold kept; rw [if_pos (h1 t h)]
    · simp
  have hN0 : 0 < ∑ t, Real.exp (wgt s t) * ind t :=
    Finset.sum_pos' (fun t _ => mul_nonneg (Real.exp_pos _).le (by unfold ind; split_ifs <;> norm_num))
      ⟨0, Finset.mem_univ _, by unfold ind; rw [if_pos (by decide)]; simpa using Real.exp_pos _⟩
  have hlt : ∑ t, Real.exp (kept s M t) < ∑ t, Real.exp (wgt s t) := by
    obtain ⟨t₁, ht₁⟩ := h2
    refine Finset.sum_lt_sum (fun t _ => Real.exp_le_exp.mpr ?_) ⟨t₁, Finset.mem_univ _, Real.exp_lt_exp.mpr ?_⟩
    · unfold kept; split_ifs
      · exact le_rfl
      · exact (wgt_pos s t).le
    · unfold kept; rw [if_neg ht₁]; exact wgt_pos s t₁
  rw [hN]
  exact (div_lt_div_of_pos_left hN0 (total_pos _) hlt).ne

/-- The first 1024 of a descending order hold the high entries, and not every entry. -/
theorem top_mask (hs : Scores s) (σ : Fin 2048 → Fin 2048) (hσ : Function.Bijective σ)
    (hd : ∀ a b : Fin 2048, a < b → wgt s (σ b) ≤ wgt s (σ a)) :
    (∀ t : Fin 2048, t.val < 512 → ∃ k : Fin 2048, k.val < 1024 ∧ σ k = t) ∧ ∃ t, ¬ ∃ k : Fin 2048, k.val < 1024 ∧ σ k = t := by
  refine ⟨fun t ht => ?_, σ ⟨1024, by decide⟩, fun ⟨k, hk, he⟩ => ?_⟩
  · obtain ⟨k, rfl⟩ := hσ.2 t
    refine ⟨k, ?_, rfl⟩
    by_contra hk
    have hsub : (Finset.Iio (1024 : Fin 2048)).image σ ⊆ high := fun u hu => by
      obtain ⟨j, hj, rfl⟩ := Finset.mem_image.mp hu
      have hj' : j.val < 1024 := Fin.lt_def.mp (Finset.mem_Iio.mp hj)
      have h := wgt_le.mp (hd j k (Fin.lt_def.mpr (by omega)))
      rw [hs.high _ ht] at h
      rw [mem_high]
      by_contra hn
      have := hs.low _ hn
      linarith
    have h := Finset.card_le_card hsub
    rw [Finset.card_image_of_injective _ hσ.1, card_high, Fin.card_Iio] at h
    exact absurd h (by decide)
  · have := hσ.1 he
    subst this
    exact absurd hk (by decide)

end Cert.Proof.RowsCut
-- ==== Proof.RowsRef.lean ====
/- The exact top half on one row, stage by stage: the first softmax, the mask a scatter of the top-k's indices leaves, and the second
   softmax against the values. -/
module

public import proofs.«01_k».proof.Proof.Gen.ReferenceRowsIdeal.Read
public import Idealize.ShloMosaic.Lib.ScatterToDense.RefScatter
public import proofs.«01_k».proof.Proof.RefAttn
public import proofs.«01_k».proof.Proof.RowsCut

@[expose] public section

set_option maxRecDepth 16384

noncomputable section

open Idealize.ShloMosaic Idealize.ShloMosaic.TcCoe Idealize.SL.Sem
open Idealize.ShloMosaic.Pipeline (Dat)

namespace Cert.Proof.RowsRef

open Cert.ReferenceRowsIdeal Cert.ReferenceRowsIdeal.Gen Cert.ReferenceRowsIdeal.Read Cert.Proof.Row Cert.Proof.RowsCut
open Idealize.ShloMosaic.ScatterToDense Idealize.ShloMosaic.Routing

/-! ### The top-k's indices -/

theorem sort2_snd {α β : Type} (s : Shape) (d : Nat) (hd : d < s.rank) (cmp : α × β → α × β → BitVec 1) (x : s.Idx → α) (y : s.Idx → β) (j : s.Idx) :
    (Host.sort2 s d cmp x y).2 j = y (j.along ⟨d, hd⟩ (sortedFrom (fun k k' =>
      cmp (x (j.along ⟨d, hd⟩ k), y (j.along ⟨d, hd⟩ k)) (x (j.along ⟨d, hd⟩ k'), y (j.along ⟨d, hd⟩ k')) == 1#1) (j ⟨d, hd⟩))) := by
  unfold Host.sort2
  rw [dif_pos hd]

theorem slice_word (v : IVec S1x16x2048x2048 32) (hs : S1x16x2048x2048.Slices (fun _ => 0) S1x16x2048x1024) (h : Fin 16) (r : Fin 2048) (k : Fin 1024) :
    extractStridedSlice S1x16x2048x1024 (fun _ => 0) v hs (ix4 0 h r k) = v (ix4 0 h r (⟨k.val, by omega⟩ : Fin 2048)) := by
  pointwise

theorem iota_at (h : Fin 16) (r k : Fin 2048) : iotaInDim S1x16x2048x2048 32 3 (ix4 (0 : Fin 1) h r k) = BitVec.ofNat 32 k.val := by
  pointwise

theorem top_word (x : FVec Ideal S1x16x2048x2048 .f32) (hs : S1x16x2048x2048.Slices (fun _ => 0) S1x16x2048x1024) (h : Fin 16) (r : Fin 2048) (k : Fin 1024) :
    (Host.topK S1x16x2048x1024 3 (FloatOps.cmpfTotal .gt) x hs).2 (ix4 0 h r k)
      = BitVec.ofNat 32 (sortedFrom (Rows.before x h r) ⟨k.val, by omega⟩).val := by
  unfold Host.topK
  dsimp only
  rw [slice_word, sort2_snd _ _ Rows.rank_lt]
  refine (congrArg (iotaInDim S1x16x2048x2048 32 3) (Rows.along_at h r _ _)).trans ?_
  refine (iota_at h r _).trans ?_
  refine congrArg (fun k : Fin 2048 => BitVec.ofNat 32 k.val) ?_
  refine congrArg (fun R : Fin 2048 → Fin 2048 → Bool => sortedFrom R (⟨k.val, by omega⟩ : Fin 2048)) ?_
  funext a b
  exact congrArg (fun b : BitVec 1 => b == 1#1) (congrArg₂ (fun a b : EReal => FloatOps.cmpfTotal (F := Ideal) (φ := .f32) .gt a b)
    (congrArg x (Rows.along_at h r a _)) (congrArg x (Rows.along_at h r b _)))

/-! ### The scatter of ones -/

/-- Setting one value at some columns: the value where some word names the column. -/
theorem GS_const {α : Type} (word : ℕ → BitVec 32) (a fill : α) (col n : ℕ) :
    GS word (fun _ => a) fill col n = a ∧ (∃ k, k < n ∧ col = (word k).toNat) ∨ GS word (fun _ => a) fill col n = fill ∧ ¬ ∃ k, k < n ∧ col = (word k).toNat := by
  induction n with
  | zero => exact Or.inr ⟨GS_zero .., fun ⟨k, h, _⟩ => absurd h (Nat.not_lt_zero k)⟩
  | succ n ih =>
    rw [GS_succ]
    by_cases h : col = (word n).toNat
    · rw [if_pos h]
      exact Or.inl ⟨rfl, n, Nat.lt_succ_self n, h⟩
    · rw [if_neg h]
      have e : (∃ k, k < n + 1 ∧ col = (word k).toNat) ↔ ∃ k, k < n ∧ col = (word k).toNat :=
        ⟨fun ⟨k, hk, hc⟩ => ⟨k, lt_of_le_of_ne (Nat.lt_succ_iff.mp hk) fun e => h (e ▸ hc), hc⟩, fun ⟨k, hk, hc⟩ => ⟨k, Nat.lt_succ_of_lt hk, hc⟩⟩
      rw [e]
      exact ih

theorem cat_at (a b : IVec S32768x1024x1 32) (i : Fin 32768) (k : Fin 1024) (z : Fin 2) :
    (concatenate S32768x1024x2 2 [⟨S32768x1024x1, a⟩, ⟨S32768x1024x1, b⟩] concatenates_S32768x1024x1_S32768x1024x1_S32768x1024x2_d2 : IVec S32768x1024x2 32) (ix3 i k z)
      = if z.val < 1 then a (ix3 i k 0) else b (ix3 i k 0) := by
  pointwise
  split_ifs
  all_goals first
    | exact congrArg (fun q : Fin 1 => a (ix3 i k q)) (Subsingleton.elim _ _)
    | exact congrArg (fun q : Fin 1 => b (ix3 i k q)) (Subsingleton.elim _ _)

variable (x0 : FVec Ideal S1 .f32) (x1 x2 : FVec Ideal S4 .f32)

theorem token_at (i : Fin 32768) (k : Fin 1024) : val_main_v41 (F := Ideal) x0 x1 (ix3 i k (0 : Fin 2)) = BitVec.ofNat 32 i.val := by
  unfold val_main_v41
  rw [cat_at, if_pos (by decide)]
  unfold val_main_v39 val_main_v38 val_main_v32 val_main_v31 val_main_v30 val_main_v29 val_main_v28 val_main_v27 val_main_v26 val_main_c val_main_c_4
  pointwise
  exact wrap_of_lt _ _ (by
    rw [BitVec.toNat_ofNat]
    exact Nat.lt_of_le_of_lt (Nat.mod_le _ _) (by have := i.isLt; show i.val < 2 ^ 31; omega))

theorem word_at (i : Fin 32768) (k : Fin 1024) : val_main_v41 (F := Ideal) x0 x1 (ix3 i k (1 : Fin 2))
    = Scalar.select (IntOp.cmpi .slt (val_main_v24 (F := Ideal) x0 x1 (ix2 i k)) 0#32)
        (IntOp.addi (val_main_v24 (F := Ideal) x0 x1 (ix2 i k)) 2048#32) (val_main_v24 (F := Ideal) x0 x1 (ix2 i k)) := by
  unfold val_main_v41
  rw [cat_at, if_neg (by decide)]
  unfold val_main_v40 val_main_v37 val_main_v36 val_main_v35 val_main_v34 val_main_v33 val_main_c_5 val_main_c_6
  generalize val_main_v24 (F := Ideal) x0 x1 = y
  pointwise

/-- The order the first row's weights are taken in. -/
def σ : Fin 2048 → Fin 2048 := sortedFrom (Rows.before (val_main_v23 (F := Ideal) x0 x1) 0 0)

theorem v24_at (k : Fin 1024) : val_main_v24 (F := Ideal) x0 x1 (ix2 (0 : Fin 32768) k) = BitVec.ofNat 32 (σ x0 x1 ⟨k.val, by omega⟩).val := by
  rw [val_main_v24_apply]
  unfold val_main_indices σ
  rw [← top_word _ sliceFits_S1x16x2048x2048_S1x16x2048x1024]
  refine congrArg _ ?_
  funext a
  fin_cases a
  · exact Fin.ext rfl
  · exact Fin.ext (show ((0 : Fin 32768).val * 1024 + k.val) / 2097152 % 16 = 0 by have := k.isLt; show (0 * 1024 + k.val) / 2097152 % 16 = 0; omega)
  · exact Fin.ext (show ((0 : Fin 32768).val * 1024 + k.val) / 1024 % 2048 = 0 by have := k.isLt; show (0 * 1024 + k.val) / 1024 % 2048 = 0; omega)
  · exact Fin.ext (show ((0 : Fin 32768).val * 1024 + k.val) % 1024 = k.val by have := k.isLt; show (0 * 1024 + k.val) % 1024 = k.val; omega)

theorem word_first (k : Fin 1024) : val_main_v41 (F := Ideal) x0 x1 (ix3 (0 : Fin 32768) k (1 : Fin 2)) = BitVec.ofNat 32 (σ x0 x1 ⟨k.val, by omega⟩).val := by
  rw [word_at, v24_at]
  exact wrap_of_lt _ _ (by
    rw [BitVec.toNat_ofNat]
    exact Nat.lt_of_le_of_lt (Nat.mod_le _ _) (by have := (σ x0 x1 ⟨k.val, by omega⟩).isLt; show (σ x0 x1 ⟨k.val, _⟩).val < 2 ^ 31; omega))

/-- The entries among the first 1024. -/
def kept (t : Fin 2048) : Prop := ∃ k : Fin 2048, k.val < 1024 ∧ σ x0 x1 k = t

theorem v25_at (i : S32768x2048.Idx) : val_main_v25 (F := Ideal) i = (0 : EReal) := by
  rw [val_main_v25_apply]
  show Ideal.ofBits .f32 0x00000000#32 = 0
  simp [Ideal.ofBits, Ideal.ieee]

theorem v42_at (i : S32768x1024.Idx) : val_main_v42 (F := Ideal) i = (1 : EReal) := by
  rw [val_main_v42_apply]
  show Ideal.ofBits .f32 0x3F800000#32 = ((1 : ℝ) : EReal)
  simp [Ideal.ofBits, Ideal.ieee, -EReal.coe_mul, -EReal.coe_one]; norm_num

/-- The words of a row of updates. -/
def words (i : Fin 32768) (k : ℕ) : BitVec 32 := if h : k < 1024 then val_main_v41 (F := Ideal) x0 x1 (ix3 i (⟨k, h⟩ : Fin 1024) (1 : Fin 2)) else 0#32

theorem v43_at (t : Fin 2048) : (val_main_v43 (F := Ideal) x0 x1 (ix2 (0 : Fin 32768) t) = (1 : EReal) ∧ kept x0 x1 t)
    ∨ (val_main_v43 (F := Ideal) x0 x1 (ix2 (0 : Fin 32768) t) = (0 : EReal) ∧ ¬ kept x0 x1 t) := by
  have e : val_main_v43 (F := Ideal) x0 x1 (ix2 (0 : Fin 32768) t) = GS (words x0 x1 0) (fun _ => (1 : EReal)) (0 : EReal) t.val 1024 := by
    unfold val_main_v43
    refine (scatter_eq_GS (α := EReal) (T := 32768) (C := 2048) (K := 1024) scatter_S32768x2048_S32768x1024x2_S32768x1024_n_01_01_2 rfl rfl rfl
      (by decide) (by decide) _ _ _ (words x0 x1) (fun _ _ => (1 : EReal)) (fun i k => token_at x0 x1 i k) (fun i k => ?_) (fun i k => v42_at _) 0 t).trans ?_
    · unfold words
      rw [dif_pos k.isLt]
      rfl
    · exact congrArg (fun a : EReal => GS (words x0 x1 0) (fun _ => (1 : EReal)) a t.val 1024) (v25_at _)
  have hk : kept x0 x1 t ↔ ∃ k, k < 1024 ∧ t.val = (words x0 x1 0 k).toNat := by
    have hw : ∀ (k : ℕ) (h : k < 1024), (words x0 x1 0 k).toNat = (σ x0 x1 ⟨k, by omega⟩).val := fun k h => by
      unfold words
      rw [dif_pos h, word_first, BitVec.toNat_ofNat]
      exact Nat.mod_eq_of_lt (by have := (σ x0 x1 ⟨k, by omega⟩).isLt; omega)
    constructor
    · rintro ⟨k, hk, rfl⟩
      exact ⟨k.val, hk, (hw k.val hk).symm⟩
    · rintro ⟨k, hk, he⟩
      exact ⟨⟨k, by omega⟩, hk, Fin.ext (by rw [he, hw k hk])⟩
  rw [e, hk]
  exact GS_const _ _ _ _ _

/-! ### The two softmaxes -/

/-- The scores of the first row. -/
theorem v12_at (h : Fin 16) (r t : Fin 2048) : val_main_v12 (F := Ideal) x0 x1 (ix4 0 h r t)
    = Ideal.div (∑ _k : Fin 64, (x0 (ix1 0) : EReal) * x1 (ix1 ⟨t.val / 512, by omega⟩)) (Ideal.ofBits .f32 0x41000000#32) := by
  rw [val_main_v12_apply, val_main_v10_apply]
  refine congrArg (fun a : EReal => Ideal.div a (Ideal.ofBits .f32 0x41000000#32)) (Finset.sum_congr rfl fun k _ =>
    congrArg₂ (fun a b : EReal => a * b) ?_ ?_)
  · unfold val_main_v1 val_main_v0
    pointwise
  · rw [val_main_v5_apply, val_main_v4_apply, val_main_v3_apply, val_main_v2_apply]
    refine congrArg x1 ?_
    funext a
    fin_cases a
    exact Fin.ext rfl

variable {x0 x1} {s : Fin 2048 → ℝ} (hs : ∀ t, val_main_v12 (F := Ideal) x0 x1 (ix4 0 0 0 t) = (s t : EReal))

include hs

theorem max_att : ∃ t₀, val_main_v15 (F := Ideal) x0 x1 (ix3 0 0 0) = (s t₀ : EReal) := by
  obtain ⟨t, ht⟩ := (Rows.max_row (val_main_v12 (F := Ideal) x0 x1) reducesTo_S1x16x2048x2048_S1x16x2048_d3 h_S_ 0 0).2
  refine ⟨t, ?_⟩
  rw [val_main_v15_apply, val_main_v14_apply, val_main_cst_1_apply, RefAttn.bot_word, ← hs t, ht]
  exact max_eq_right bot_le

theorem v23_at (t : Fin 2048) : val_main_v23 (F := Ideal) x0 x1 (ix4 0 0 0 t) = (wgt s t : EReal) := by
  obtain ⟨t₀, ht₀⟩ := max_att hs
  rw [← w1_real t₀, ← ht₀]
  unfold w1
  simp only [← hs]
  unfold val_main_v23 val_main_v22 val_main_v21 val_main_v20 val_main_v19 val_main_v18 val_main_v17 val_main_v16 val_main_cst_2
  pointwise

theorem σ_spec : Function.Bijective (σ x0 x1) ∧ ∀ a b : Fin 2048, a < b → wgt s (σ x0 x1 b) ≤ wgt s (σ x0 x1 a) := by
  refine ⟨⟨sortedFrom_injective _, sortedFrom_surjective _⟩, fun a b hab => ?_⟩
  have h := Rows.order_desc (val_main_v23 (F := Ideal) x0 x1) 0 0 a b hab
  have ha := v23_at hs (σ x0 x1 a)
  have hb := v23_at hs (σ x0 x1 b)
  exact EReal.coe_le_coe_iff.mp (le_trans (le_of_eq hb.symm) (le_trans h (le_of_eq ha)))

omit hs in
theorem half_word : (FloatOps.ofBits .f32 0x3F000000#32 : Ideal .f32) = ((1 / 2 : ℝ) : EReal) := by
  show Ideal.ofBits .f32 0x3F000000#32 = _
  simp [Ideal.ofBits, Ideal.ieee, -EReal.coe_mul]; norm_num

theorem v47_at (t : Fin 2048) : val_main_v47 (F := Ideal) x0 x1 (ix4 0 0 0 t) = (RowsCut.kept s (kept x0 x1) t : EReal) := by
  have e : val_main_v44 (F := Ideal) x0 x1 (ix4 0 0 0 t) = val_main_v43 (F := Ideal) x0 x1 (ix2 (0 : Fin 32768) t) := by
    rw [val_main_v44_apply]
    refine congrArg _ ?_
    funext a
    fin_cases a
    · exact Fin.ext (show (((0 * 16 + 0) * 2048 + 0) * 2048 + t.val) / 2048 = 0 by have := t.isLt; omega)
    · exact Fin.ext (show (((0 * 16 + 0) * 2048 + 0) * 2048 + t.val) % 2048 = t.val by have := t.isLt; omega)
  rw [val_main_v47_apply, val_main_v46_apply, e, v23_at hs, val_main_v45_apply, val_main_cst_8_apply, half_word]
  unfold RowsCut.kept
  rcases v43_at x0 x1 t with ⟨h, hk⟩ | ⟨h, hk⟩
  · rw [h, if_pos hk]
    have : FloatOps.cmpf (F := Ideal) (φ := .f32) .ogt (1 : EReal) ((1 / 2 : ℝ) : EReal) = 1#1 := by
      show BitVec.ofBool (decide (((1 / 2 : ℝ) : EReal) < 1)) = 1#1
      rw [decide_eq_true (by exact_mod_cast (by norm_num : (1 / 2 : ℝ) < 1))]; rfl
    rw [this]
    rfl
  · rw [h, if_neg hk]
    have : FloatOps.cmpf (F := Ideal) (φ := .f32) .ogt (0 : EReal) ((1 / 2 : ℝ) : EReal) = 0#1 := by
      show BitVec.ofBool (decide (((1 / 2 : ℝ) : EReal) < 0)) = 0#1
      rw [decide_eq_false (by rw [not_lt]; exact_mod_cast (by norm_num : (0 : ℝ) ≤ 1 / 2))]; rfl
    rw [this]
    show val_main_call0_v1 (F := Ideal) (ix4 0 0 0 t) = _
    rw [val_main_call0_v1_apply]
    show Ideal.ofBits .f32 0x00000000#32 = _
    simp [Ideal.ofBits, Ideal.ieee]

theorem max2_att : ∃ t₀, val_main_v50 (F := Ideal) x0 x1 (ix3 0 0 0) = (RowsCut.kept s (kept x0 x1) t₀ : EReal) := by
  obtain ⟨t, ht⟩ := (Rows.max_row (val_main_v47 (F := Ideal) x0 x1) reducesTo_S1x16x2048x2048_S1x16x2048_d3 h_S_ 0 0).2
  refine ⟨t, ?_⟩
  rw [val_main_v50_apply, val_main_v49_apply, val_main_cst_11_apply, RefAttn.bot_word, ← v47_at hs t, ht]
  exact max_eq_right bot_le

omit hs in
theorem v54_at (u : Fin 2048) : val_main_v54 (F := Ideal) x0 x1 (ix4 0 0 0 u)
    = Ideal.exp (val_main_v47 (F := Ideal) x0 x1 (ix4 0 0 0 u) - val_main_v50 (F := Ideal) x0 x1 (ix3 0 0 0)) := by
  rw [val_main_v54_apply, val_main_v53_apply, val_main_v52_apply, val_main_v51_apply]
  have e : idx_main_v51 (idx_main_v52 (ix4 0 0 0 u)) = ix3 0 0 0 := by funext a; fin_cases a <;> rfl
  rw [e]
  generalize val_main_v47 (F := Ideal) x0 x1 = y
  generalize val_main_v50 (F := Ideal) x0 x1 = z
  rfl

omit hs in
theorem v58_at (t : Fin 2048) : val_main_v58 (F := Ideal) x0 x1 (ix4 0 0 0 t)
    = Ideal.div (Ideal.exp (val_main_v47 (F := Ideal) x0 x1 (ix4 0 0 0 t) - val_main_v50 (F := Ideal) x0 x1 (ix3 0 0 0)))
        (∑ u : Fin 2048, Ideal.exp (val_main_v47 (F := Ideal) x0 x1 (ix4 0 0 0 u) - val_main_v50 (F := Ideal) x0 x1 (ix3 0 0 0))) := by
  have e : ∀ u : Fin 2048, idx_main_v55 (idx_main_v56 (idx_main_v57 (ix4 0 0 0 t))) u = ix4 0 0 0 u := fun u => by funext a; fin_cases a <;> rfl
  have z : val_main_cst_12 (F := Ideal) (Shape.Idx.first h_S_) = (0 : EReal) := by
    show Ideal.ofBits .f32 0x00000000#32 = 0
    simp [Ideal.ofBits, Ideal.ieee]
  rw [val_main_v58_apply, val_main_v57_apply, val_main_v56_apply, val_main_v55_apply, z]
  simp only [e, v54_at]
  exact congrArg (Ideal.div _) (zero_add _)

/-- The first lane of the first row of the result. -/
theorem v61_at (hv : ∀ t : Fin 2048, x2 (ix1 ⟨t.val / 512, by omega⟩) = (ind t : EReal)) :
    val_main_v61 (F := Ideal) x0 x1 x2 (ix2 0 0)
      = (((∑ t, Real.exp (RowsCut.kept s (kept x0 x1) t) * ind t) / ∑ t, Real.exp (RowsCut.kept s (kept x0 x1) t) : ℝ) : EReal) := by
  obtain ⟨t₀, ht₀⟩ := max2_att hs
  rw [← reference_row _ t₀, val_main_v61_apply, val_main_v60_apply, val_main_v59_apply]
  refine Finset.sum_congr rfl fun t _ => congrArg₂ (fun a b : EReal => a * b) ?_ ?_
  · rw [← ht₀]
    simp only [← v47_at hs]
    rw [← v58_at]
    refine congrArg _ ?_
    funext a
    fin_cases a <;> rfl
  · rw [← hv t, val_main_v9_apply, val_main_v8_apply, val_main_v7_apply, val_main_v6_apply]
    refine congrArg x2 ?_
    funext a
    fin_cases a
    exact Fin.ext rfl

end Cert.Proof.RowsRef
-- ==== Proof.RowsPart.lean ====
/- The attention call and the exact top half part on one row: the arguments' entries as reals, the two results' first entries, and the
   statement. -/
module

public import proofs.«01_k».proof.Defs
public import proofs.«01_k».proof.Proof.Gen.KernelRowsIdeal.Value
public import proofs.«01_k».proof.Proof.Gen.ReferenceRowsIdeal.Run
public import proofs.«01_k».proof.Proof.RowsAttn
public import proofs.«01_k».proof.Proof.RowsRef

@[expose] public section

set_option maxRecDepth 16384

noncomputable section

open Idealize.ShloMosaic Idealize.ShloMosaic.TcCoe Idealize.SL.Sem
open Idealize.ShloMosaic.Pipeline (Dat)

namespace Cert.Proof.RowsPart

open Cert.Proof.Row Cert.Proof.RowsCut Cert.Proof.AttnEq

/-- The four keys. -/
def key : Fin 4 → ℝ := ![5 / 16, 0, -1 / 64, -1 / 32]

/-- The first row's scores. -/
def s (t : Fin 2048) : ℝ := 8 * key ⟨t.val / 512, by omega⟩

theorem scores : Scores s where
  high t ht := by
    unfold s
    have : (⟨t.val / 512, by omega⟩ : Fin 4) = 0 := Fin.ext (show t.val / 512 = 0 by omega)
    rw [this]
    show 8 * (5 / 16 : ℝ) = 5 / 2
    norm_num
  low t ht := by
    unfold s
    have h : ∀ i : Fin 4, i.val ≠ 0 → key i ≤ 0 := fun i hi => by
      fin_cases i
      · exact absurd rfl hi
      · exact le_rfl
      · show (-1 / 64 : ℝ) ≤ 0; norm_num
      · show (-1 / 32 : ℝ) ≤ 0; norm_num
    have := h ⟨t.val / 512, by omega⟩ (show t.val / 512 ≠ 0 by omega)
    linarith

abbrev a0 := Cert.Cx_KernelRowsIdeal.arg0 (F := Ideal)
abbrev a1 := Cert.Cx_KernelRowsIdeal.arg1 (F := Ideal)
abbrev a2 := Cert.Cx_KernelRowsIdeal.arg2 (F := Ideal)

theorem a0_at : (a0 (ix1 0) : EReal) = ((1 : ℝ) : EReal) := by
  show Ideal.ofBits .f32 0x3F800000#32 = _
  simp [Ideal.ofBits, Ideal.ieee, -EReal.coe_mul, -EReal.coe_one]; norm_num

theorem a1_at (i : Fin 4) : (a1 (ix1 i) : EReal) = (key i : EReal) := by
  fin_cases i
  · show Ideal.ofBits .f32 0x3EA00000#32 = ((5 / 16 : ℝ) : EReal)
    simp [Ideal.ofBits, Ideal.ieee, -EReal.coe_mul]; norm_num
  · show Ideal.ofBits .f32 0x00000000#32 = ((0 : ℝ) : EReal)
    simp [Ideal.ofBits, Ideal.ieee]
  · show Ideal.ofBits .f32 0xBC800000#32 = ((-1 / 64 : ℝ) : EReal)
    simp [Ideal.ofBits, Ideal.ieee, -EReal.coe_mul, -EReal.coe_neg]; norm_num
  · show Ideal.ofBits .f32 0xBD000000#32 = ((-1 / 32 : ℝ) : EReal)
    simp [Ideal.ofBits, Ideal.ieee, -EReal.coe_mul, -EReal.coe_neg]; norm_num

theorem a2_at (t : Fin 2048) : (a2 (ix1 ⟨t.val / 512, by omega⟩) : EReal) = (ind t : EReal) := by
  have h : ∀ i : Fin 4, (a2 (ix1 i) : EReal) = ((if i.val = 0 then 1 else 0 : ℝ) : EReal) := fun i => by
    fin_cases i
    · show Ideal.ofBits .f32 0x3F800000#32 = ((1 : ℝ) : EReal)
      simp [Ideal.ofBits, Ideal.ieee, -EReal.coe_mul, -EReal.coe_one]; norm_num
    all_goals
      show Ideal.ofBits .f32 0x00000000#32 = ((0 : ℝ) : EReal)
      simp [Ideal.ofBits, Ideal.ieee]
  rw [h]
  unfold ind
  refine congrArg (fun a : ℝ => (a : EReal)) (if_congr ?_ rfl rfl)
  show t.val / 512 = 0 ↔ t.val < 512
  omega

/-- The dot product of the query with a key. -/
theorem dot_eq (x : ℝ) : ∑ _k : Fin 64, ((1 : ℝ) : EReal) * (x : EReal) = ((64 * x : ℝ) : EReal) := by
  simp only [← EReal.coe_mul]
  rw [sum_coe, Finset.sum_const, Finset.card_univ, Fintype.card_fin, nsmul_eq_mul]
  norm_num

theorem score_eq (t : Fin 2048) : Ideal.div ((64 * key ⟨t.val / 512, by omega⟩ : ℝ) : EReal) (Ideal.ofBits .f32 0x41000000#32) = (s t : EReal) := by
  rw [word_eight, Ideal.div_coe (by norm_num), ← EReal.coe_mul]
  unfold s
  refine congrArg (fun a : ℝ => (a : EReal)) ?_
  ring

/-- The kernel's row on these rows. -/
theorem row_at (Q : FVec Ideal Cert.KernelRowsIdeal.S2048x3072 .bf16) (hQ : ∀ (r : Fin 2048) (j : Fin 3072), Q (ix2 r j) = RowsAttn.rows a0 a1 a2 r j) :
    Attn.attnAt Q 0 0 = (((∑ t, Real.exp (wgt s t) * ind t) / ∑ t, Real.exp (wgt s t) : ℝ) : EReal) := by
  rw [← kernel_row scores]
  unfold Attn.attnAt
  refine congrArg₂ krow (funext fun t => ?_) (funext fun t => ?_)
  · have e : ∀ (k : Fin 64) (i j : Fin 3072), i.val = k.val → j.val = 1024 + k.val → (Q (ix2 (0 : Fin 2048) i) : EReal) * Q (ix2 t j)
        = ((sg : ℝ) : EReal) * (((1 : ℝ) : EReal) * (key ⟨t.val / 512, by omega⟩ : EReal)) := fun k i j hi hj => by
      rw [hQ, hQ]
      unfold RowsAttn.rows
      rw [if_pos (show i.val < 1024 by omega), if_neg (show ¬ j.val < 1024 by omega), if_pos (show j.val < 2048 by omega)]
      unfold RowsAttn.times
      rw [a0_at, a1_at, scl_eq, mul_comm ((1 : ℝ) : EReal), mul_assoc]
    refine (congrArg Ideal.exp2 (Finset.sum_congr rfl fun k _ => e k _ _ (show 0 / 64 * 64 + k.val = k.val by omega)
      (show 1024 + (0 / 64 * 64 + k.val) = 1024 + k.val by omega))).trans ?_
    rw [← mul_sum_real _ _ sg_pos.le, dot_eq, exp2_scaled, score_eq]
    rfl
  · refine (hQ t _).trans ?_
    unfold RowsAttn.rows
    rw [if_neg (by decide), if_neg (by decide)]
    exact a2_at t

/-- The kernel's first entry. -/
theorem kernel_at (m : (ℓ : Loc Cert.KernelRowsIdeal.nD Cert.KernelRowsIdeal.τ Cert.KernelRowsIdeal.sig) → Buf (Elt Ideal) ℓ) (c : Dev Cert.KernelRowsIdeal.nD)
    (h0 : m ((c : Thread Cert.KernelRowsIdeal.nD Cert.KernelRowsIdeal.τ).loc Cert.KernelRowsIdeal.main_arg0) = a0)
    (h1 : m ((c : Thread Cert.KernelRowsIdeal.nD Cert.KernelRowsIdeal.τ).loc Cert.KernelRowsIdeal.main_arg1) = a1)
    (h2 : m ((c : Thread Cert.KernelRowsIdeal.nD Cert.KernelRowsIdeal.τ).loc Cert.KernelRowsIdeal.main_arg2) = a2) :
    (Cert.KernelRowsIdeal.Gen.dats m 0 c).arrAt 3 Cert.KernelRowsIdeal.cfg0.N (ix2 (0 : Fin 2048) (0 : Fin 1024))
      = (((∑ t, Real.exp (wgt s t) * ind t) / ∑ t, Real.exp (wgt s t) : ℝ) : EReal) := by
  rw [RowsAttn.final]
  have hQ := RowsAttn.v14_at m c
  rw [h0, h1, h2] at hQ
  exact row_at _ hQ

/-- The reference's first entry. -/
theorem reference_at : Cert.ReferenceRowsIdeal.Read.val_main_v61 (F := Ideal) a0 a1 a2 (ix2 0 0)
    = (((∑ t, Real.exp (kept s (RowsRef.kept a0 a1) t) * ind t) / ∑ t, Real.exp (kept s (RowsRef.kept a0 a1) t) : ℝ) : EReal) := by
  refine RowsRef.v61_at a2 (fun t => ?_) a2_at
  rw [RowsRef.v12_at, a0_at, a1_at, dot_eq, score_eq]

/-- The two differ. -/
theorem entries_ne : (∑ t, Real.exp (wgt s t) * ind t) / (∑ t, Real.exp (wgt s t))
    ≠ (∑ t, Real.exp (kept s (RowsRef.kept a0 a1) t) * ind t) / ∑ t, Real.exp (kept s (RowsRef.kept a0 a1) t) := by
  have hs : ∀ t, Cert.ReferenceRowsIdeal.Read.val_main_v12 (F := Ideal) a0 a1 (ix4 0 0 0 t) = (s t : EReal) := fun t => by
    rw [RowsRef.v12_at, a0_at, a1_at, dot_eq, score_eq]
  obtain ⟨hb, hd⟩ := RowsRef.σ_spec hs
  obtain ⟨h1, h2⟩ := top_mask scores _ hb hd
  exact rows_ne (RowsRef.kept a0 a1) h1 h2

end Cert.Proof.RowsPart

namespace Cert.Proof

/-- The attention call does not compute the exact top half. -/
theorem disproves_rows : Cert.disproves_algebraic_KernelRowsIdeal_ReferenceRowsIdeal (hKernelRowsIdeal := Cert.KernelRowsIdeal.Gen.facts)
    (hReferenceRowsIdeal := Cert.ReferenceRowsIdeal.Gen.facts) := by
  intro m g m' g' hm hag
  refine ⟨trivial, fun c => Cert.ReferenceRowsIdeal.Value.res_main_v61 m' c, ?_, ?_⟩
  · refine (θ_run _ _ _).mono (fun r h hall => ?_) (Cert.KernelRowsIdeal.Value.run_blocks (F := Ideal) m g)
    obtain ⟨h0, h1, h2⟩ := hm 0
    obtain ⟨g0, g1, g2⟩ := hag 0
    have e : (Cert.KernelRowsIdeal.Gen.dats m 0 0).arrAt 3 Cert.KernelRowsIdeal.cfg0.N = Cert.ReferenceRowsIdeal.Read.val_main_v61 (F := Ideal) RowsPart.a0 RowsPart.a1 RowsPart.a2 := by
      refine (h 0).1.symm.trans ((hall 0).trans ?_)
      refine (Cert.ReferenceRowsIdeal.Read.val_main_v61_eq (F := Ideal) m' 0).trans ?_
      rw [g0, g1, g2, h0, h1, h2]
    have e' := congrFun e (ix2 (0 : Fin 2048) (0 : Fin 1024))
    rw [RowsPart.kernel_at m 0 h0 h1 h2, RowsPart.reference_at] at e'
    exact RowsPart.entries_ne (EReal.coe_injective e')
  · exact (θ_run _ _ _).mono (fun r h c => (h c).1) (Cert.ReferenceRowsIdeal.Value.run (F := Ideal) m' g')

end Cert.Proof
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelRows
public import proofs.«01_k».proof.Proof.Gen.KernelRowsIdeal
public import proofs.«01_k».proof.Proof.Gen.KernelRowsIdeal.Value
public import proofs.«01_k».proof.Proof.Gen.ReferenceRowsIdeal
public import proofs.«01_k».proof.Proof.Gen.ReferenceRowsIdeal.Run
public import proofs.«01_k».proof.Proof.Gen.ReferenceRowsIdeal.Read
public import proofs.«01_k».proof.Proof.Frames
public import proofs.«01_k».proof.Proof.Whole
public import proofs.«01_k».proof.Proof.RowsPart
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.KernelRows.Gen.facts, Cert.KernelRowsIdeal.Gen.facts, Cert.ReferenceRowsIdeal.Gen.facts,
  frame_kernel, frame_kernelIdeal, frame_referenceIdeal, frame_kernelRows, frame_kernelRowsIdeal, frame_referenceRowsIdeal,
  preserves_log2_e, algebraic, preserves_rows, disproves_rows⟩

end Cert.Proof

end
